-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_features [hPre_finite_features : Cert.Pre_finite_features.Facts] (m : (ℓ : Loc Cert.KernelIdeal.nD Cert.KernelIdeal.τ Cert.KernelIdeal.sig) → Buf (Elt Ideal) ℓ) : Prop :=
  ∀ c : Dev Cert.KernelIdeal.nD,
    (Cert.Pre_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_features [hPre_finite_features : Cert.Pre_finite_features.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_features [hKernelIdeal : Cert.KernelIdeal.Facts] [hPre_finite_features : Cert.Pre_finite_features.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_features m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_features [hReferenceIdeal : Cert.ReferenceIdeal.Facts] [hPre_finite_features : Cert.Pre_finite_features.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_features m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_features [hKernelIdeal : Cert.KernelIdeal.Facts] [hReferenceIdeal : Cert.ReferenceIdeal.Facts] [hPre_finite_features : Cert.Pre_finite_features.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_features m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_features : Cert.Pre_finite_features.Facts),
    quiescent_Kernel (hKernel := hKernel)
    ∧ quiescent_KernelIdeal (hKernelIdeal := hKernelIdeal)
    ∧ quiescent_KernelIdeal_pre_finite_features (hKernelIdeal := hKernelIdeal) (hPre_finite_features := hPre_finite_features)
    ∧ quiescent_ReferenceIdeal (hReferenceIdeal := hReferenceIdeal)
    ∧ quiescent_ReferenceIdeal_pre_finite_features (hReferenceIdeal := hReferenceIdeal) (hPre_finite_features := hPre_finite_features)
    ∧ preserves_Kernel_KernelIdeal
    ∧ algebraic_KernelIdeal_ReferenceIdeal_pre_finite_features (hKernelIdeal := hKernelIdeal) (hReferenceIdeal := hReferenceIdeal) (hPre_finite_features := hPre_finite_features)
-- ==== Pre_finite_features.lean ====
abbrev S4x96x512x512 : Shape := ⟨4, ![4, 96, 512, 512]⟩
abbrev S4x512x512 : Shape := ⟨3, ![4, 512, 512]⟩
abbrev S96 : Shape := ⟨1, ![96]⟩
abbrev S_ : Shape := ⟨0, ![]⟩

class Facts : Prop where
  bcast_S_S4x96x512x512 : S_.BroadcastsInDim S4x96x512x512 (![] : Fin 0 → Fin S4x96x512x512.rank)
  reducesTo_S4x96x512x512_S_d0_1_2_3 : S4x96x512x512.ReducesTo [0, 1, 2, 3] S_
  h_S_ : 0 < S_.numel

variable [Facts]

def fn {F : FTy → Type} [FloatOps F] (main_arg0 : FVec F S4x96x512x512 .f32) (main_arg1 : FVec F S4x512x512 .f32) (main_arg2 : FVec F S96 .f32) (main_arg3 : FVec F S96 .f32) (main_arg4 : IVec S_ 32) (main_arg5 : IVec S_ 32) : IVec S_ 1 :=
  let main_v0 : FVec F S4x96x512x512 .f32 := Host.absf main_arg0
  let main_cst : FVec F S_ .f32 := constant S_ .f32 0x7F800000#32
  let main_v1 : FVec F S4x96x512x512 .f32 := broadcastInDim S4x96x512x512 ![] bcast_S_S4x96x512x512 main_cst
  let main_v2 : IVec S4x96x512x512 1 := cmpf .olt main_v0 main_v1
  let main_c : IVec S_ 1 := constantI S_ 1 1#1
  let main_v3 : IVec S_ 1 := (fun x v => Host.reduce IntOp.andi x v reducesTo_S4x96x512x512_S_d0_1_2_3 h_S_) main_v2 main_c
  main_v3
-- ==== Kernel.lean ====
abbrev S4x96x512x512 : Shape := ⟨4, ![4, 96, 512, 512]⟩
abbrev S4x512x512 : Shape := ⟨3, ![4, 512, 512]⟩
abbrev S96 : Shape := ⟨1, ![96]⟩
abbrev S_ : Shape := ⟨0, ![]⟩
abbrev S32x25x16 : Shape := ⟨3, ![32, 25, 16]⟩
abbrev S2x12x8x256 : Shape := ⟨4, ![2, 12, 8, 256]⟩
abbrev S2x8x256 : Shape := ⟨3, ![2, 8, 256]⟩
abbrev S25x16 : Shape := ⟨2, ![25, 16]⟩
abbrev S16 : Shape := ⟨1, ![16]⟩
abbrev S1x8x256 : Shape := ⟨3, ![1, 8, 256]⟩
abbrev S8x256 : Shape := ⟨2, ![8, 256]⟩
abbrev S1x1x8x256 : Shape := ⟨4, ![1, 1, 8, 256]⟩
abbrev S1x1x16 : Shape := ⟨3, ![1, 1, 16]⟩
abbrev S1x1x1x16 : Shape := ⟨4, ![1, 1, 1, 16]⟩
abbrev S1x16 : Shape := ⟨2, ![1, 16]⟩
abbrev S1x25x16 : Shape := ⟨3, ![1, 25, 16]⟩
abbrev S32x25 : Shape := ⟨2, ![32, 25]⟩
abbrev S4x8x25 : Shape := ⟨3, ![4, 8, 25]⟩
abbrev S4x1x1 : Shape := ⟨3, ![4, 1, 1]⟩
abbrev S4 : Shape := ⟨1, ![4]⟩
abbrev S4x8x12 : Shape := ⟨3, ![4, 8, 12]⟩
abbrev S4x96 : Shape := ⟨2, ![4, 96]⟩
abbrev S1x96 : Shape := ⟨2, ![1, 96]⟩
abbrev S2x96 : Shape := ⟨2, ![2, 96]⟩

abbrev nBuf : Table → Nat
  | .hbm => 62
  | .local .scVector .vmem => 3
  | _ => 0

abbrev bufTy : (tb : Table) → Fin (nBuf tb) → BufTy
  | .hbm, ⟨0, _⟩ => ⟨S4x96x512x512, .f32⟩
  | .hbm, ⟨1, _⟩ => ⟨S4x512x512, .f32⟩
  | .hbm, ⟨2, _⟩ => ⟨S96, .f32⟩
  | .hbm, ⟨3, _⟩ => ⟨S96, .f32⟩
  | .hbm, ⟨4, _⟩ => ⟨S_, .i32⟩
  | .hbm, ⟨5, _⟩ => ⟨S_, .i32⟩
  | .hbm, ⟨6, _⟩ => ⟨S32x25x16, .f32⟩
  | .hbm, ⟨7, _⟩ => ⟨S_, .f32⟩
  | .hbm, ⟨8, _⟩ => ⟨S32x25, .f32⟩
  | .hbm, ⟨9, _⟩ => ⟨S4x8x25, .f32⟩
  | .hbm, ⟨10, _⟩ => ⟨S4x1x1, .f32⟩
  | .hbm, ⟨11, _⟩ => ⟨S4, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x8x12, .f32⟩
  | .hbm, ⟨17, _⟩ => ⟨S4x96, .f32⟩
  | .hbm, ⟨18, _⟩ => ⟨S_, .f32⟩
  | .hbm, ⟨19, _⟩ => ⟨S96, .f32⟩
  | .hbm, ⟨20, _⟩ => ⟨S4x8x12, .f32⟩
  | .hbm, ⟨21, _⟩ => ⟨S4x96, .f32⟩
  | .hbm, ⟨22, _⟩ => ⟨S_, .f32⟩
  | .hbm, ⟨23, _⟩ => ⟨S96, .f32⟩
  | .hbm, ⟨24, _⟩ => ⟨S_, .f32⟩
  | .hbm, ⟨25, _⟩ => ⟨S_, .f32⟩
  | .hbm, ⟨26, _⟩ => ⟨S96, .f32⟩
  | .hbm, ⟨27, _⟩ => ⟨S96, .f32⟩
  | .hbm, ⟨28, _⟩ => ⟨S96, .f32⟩
  | .hbm, ⟨29, _⟩ => ⟨S_, .f32⟩
  | .hbm, ⟨30, _⟩ => ⟨S_, .f32⟩
  | .hbm, ⟨31, _⟩ => ⟨S96, .f32⟩
  | .hbm, ⟨32, _⟩ => ⟨S96, .f32⟩
  | .hbm, ⟨33, _⟩ => ⟨S_, .i32⟩
  | .hbm, ⟨34, _⟩ => ⟨S_, .i1⟩
  | .hbm, ⟨35, _⟩ => ⟨S_, .f32⟩
  | .hbm, ⟨36, _⟩ => ⟨S96, .f32⟩
  | .hbm, ⟨37, _⟩ => ⟨S96, .f32⟩
  | .hbm, ⟨38, _⟩ => ⟨S_, .f32⟩
  | .hbm, ⟨39, _⟩ => ⟨S96, .f32⟩
  | .hbm, ⟨40, _⟩ => ⟨S96, .f32⟩
  | .hbm, ⟨41, _⟩ => ⟨S96, .f32⟩
  | .hbm, ⟨42, _⟩ => ⟨S96, .f32⟩
  | .hbm, ⟨43, _⟩ => ⟨S_, .f32⟩
  | .hbm, ⟨44, _⟩ => ⟨S_, .i1⟩
  | .hbm, ⟨45, _⟩ => ⟨S96, .f32⟩
  | .hbm, ⟨46, _⟩ => ⟨S_, .i32⟩
  | .hbm, ⟨47, _⟩ => ⟨S_, .i1⟩
  | .hbm, ⟨48, _⟩ => ⟨S_, .f32⟩
  | .hbm, ⟨49, _⟩ => ⟨S96, .f32⟩
  | .hbm, ⟨50, _⟩ => ⟨S96, .f32⟩
  | .hbm, ⟨51, _⟩ => ⟨S_, .f32⟩
  | .hbm, ⟨52, _⟩ => ⟨S96, .f32⟩
  | .hbm, ⟨53, _⟩ => ⟨S96, .f32⟩
  | .hbm, ⟨54, _⟩ => ⟨S96, .f32⟩
  | .hbm, ⟨55, _⟩ => ⟨S96, .f32⟩
  | .hbm, ⟨56, _⟩ => ⟨S_, .f32⟩
  | .hbm, ⟨57, _⟩ => ⟨S_, .i1⟩
  | .hbm, ⟨58, _⟩ => ⟨S96, .f32⟩
  | .hbm, ⟨59, _⟩ => ⟨S1x96, .f32⟩
  | .hbm, ⟨60, _⟩ => ⟨S1x96, .f32⟩
  | .hbm, ⟨61, _⟩ => ⟨S2x96, .f32⟩
  | .local .scVector .vmem, ⟨0, _⟩ => ⟨S2x12x8x256, .f32⟩
  | .local .scVector .vmem, ⟨1, _⟩ => ⟨S2x8x256, .f32⟩
  | .local .scVector .vmem, ⟨2, _⟩ => ⟨S25x16, .f32⟩
  | _, _ => ⟨S4x96x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_arg0_scv : Ref sig .scVector := ⟨.hbm, 0, rfl⟩
abbrev main_arg1_scv : Ref sig .scVector := ⟨.hbm, 1, rfl⟩
abbrev main_v0_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_17 : BitVec 32 := 0#32
  let c0_i32_18 : BitVec 32 := 0#32
  ![v18.toNat, 0, 0]
def k0_off2 (i : grid0.Coords) (c0_i32_10 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let v31 : BitVec 32 := Scalar.addi v29 c0_i32_10
  let c0_i32_27 : BitVec 32 := 0#32
  let c0_i32_28 : BitVec 32 := 0#32
  ![v18.toNat, v31.toNat, 0, 0]
@[reducible] def k0_t1_loop : Scf.Loop 32 :=
  let c0_i32_143 : BitVec 32 := 0#32
  let c64_i32 : BitVec 32 := 64#32
  let v147 : BitVec 32 := Scalar.addi c0_i32_143 c64_i32
  let c1_i32_144 : BitVec 32 := 1#32
  ⟨c0_i32_143, v147, c1_i32_144⟩
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_324 : BitVec 32 := 2#32
  let c0_i32_143 : BitVec 32 := 0#32
  let c1_i32_144 : BitVec 32 := 1#32
  let arg10 : BitVec 32 := Scf.iv c0_i32_143 c1_i32_144 k0_t1
  let v365 : BitVec 32 := Scalar.muli c2_i32_324 arg10
  let c1_i32_325 : BitVec 32 := 1#32
  let v366 : BitVec 32 := Scalar.addi v365 c1_i32_325
  let c0_i32_327 : BitVec 32 := 0#32
  let v368 : BitVec 1 := Scalar.cmpi .sgt v366 c0_i32_327
  let v369 : BitVec 32 := Scalar.extui v368
  let c0_i32_328 : BitVec 32 := 0#32
  let v370 : BitVec 1 := Scalar.cmpi .slt v366 c0_i32_328
  let v371 : BitVec 32 := Scalar.extui v370
  let v372 : BitVec 32 := Scalar.subi v369 v371
  let c2_i32_326 : BitVec 32 := 2#32
  let c0_i32_329 : BitVec 32 := 0#32
  let v373 : BitVec 1 := Scalar.cmpi .sgt c2_i32_326 c0_i32_329
  let v374 : BitVec 32 := Scalar.extui v373
  let c0_i32_330 : BitVec 32 := 0#32
  let v375 : BitVec 1 := Scalar.cmpi .slt c2_i32_326 c0_i32_330
  let v376 : BitVec 32 := Scalar.extui v375
  let v377 : BitVec 32 := Scalar.subi v374 v376
  let v378 : BitVec 1 := Scalar.cmpi .ne v372 v377
  let v379 : BitVec 32 := Scalar.remsi v366 c2_i32_326
  let c0_i32_331 : BitVec 32 := 0#32
  let v380 : BitVec 1 := Scalar.cmpi .ne v379 c0_i32_331
  let v381 : BitVec 1 := Scalar.andi v378 v380
  let v367 : BitVec 32 := Scalar.divsi v366 c2_i32_326
  let c1_i32_332 : BitVec 32 := 1#32
  let v382 : BitVec 32 := Scalar.subi v367 c1_i32_332
  let v383 : BitVec 32 := Scalar.select v381 v382 v367
  let c8_i32_333 : BitVec 32 := 8#32
  let v384 : BitVec 32 := Scalar.muli v383 c8_i32_333
  let c2_i32_334 : BitVec 32 := 2#32
  let c0_i32_335 : BitVec 32 := 0#32
  let v385 : BitVec 1 := Scalar.cmpi .eq c2_i32_334 c0_i32_335
  let c1_i32_336 : BitVec 32 := 1#32
  let v386 : BitVec 32 := Scalar.select v385 c1_i32_336 c2_i32_334
  let v387 : BitVec 32 := Scalar.remsi v366 v386
  let c0_i32_338 : BitVec 32 := 0#32
  let v389 : BitVec 1 := Scalar.cmpi .slt v387 c0_i32_338
  let c0_i32_339 : BitVec 32 := 0#32
  let v390 : BitVec 1 := Scalar.cmpi .slt v386 c0_i32_339
  let v391 : BitVec 1 := Scalar.xori v389 v390
  let c0_i32_337 : BitVec 32 := 0#32
  let v388 : BitVec 1 := Scalar.cmpi .ne v387 c0_i32_337
  let v392 : BitVec 1 := Scalar.andi v391 v388
  let v393 : BitVec 32 := Scalar.addi v387 v386
  let v394 : BitVec 32 := Scalar.select v392 v393 v387
  let c256_i32 : BitVec 32 := 256#32
  let v395 : BitVec 32 := Scalar.muli v394 c256_i32
  ![v18.toNat, v384.toNat, v395.toNat]
def k0_off4 (i : grid0.Coords) (k0_t1 : Fin k0_t1_loop.trips) (c0_i32_340 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let v396 : BitVec 32 := Scalar.addi v29 c0_i32_340
  let c2_i32_324 : BitVec 32 := 2#32
  let c0_i32_143 : BitVec 32 := 0#32
  let c1_i32_144 : BitVec 32 := 1#32
  let arg10 : BitVec 32 := Scf.iv c0_i32_143 c1_i32_144 k0_t1
  let v365 : BitVec 32 := Scalar.muli c2_i32_324 arg10
  let c1_i32_325 : BitVec 32 := 1#32
  let v366 : BitVec 32 := Scalar.addi v365 c1_i32_325
  let c0_i32_327 : BitVec 32 := 0#32
  let v368 : BitVec 1 := Scalar.cmpi .sgt v366 c0_i32_327
  let v369 : BitVec 32 := Scalar.extui v368
  let c0_i32_328 : BitVec 32 := 0#32
  let v370 : BitVec 1 := Scalar.cmpi .slt v366 c0_i32_328
  let v371 : BitVec 32 := Scalar.extui v370
  let v372 : BitVec 32 := Scalar.subi v369 v371
  let c2_i32_326 : BitVec 32 := 2#32
  let c0_i32_329 : BitVec 32 := 0#32
  let v373 : BitVec 1 := Scalar.cmpi .sgt c2_i32_326 c0_i32_329
  let v374 : BitVec 32 := Scalar.extui v373
  let c0_i32_330 : BitVec 32 := 0#32
  let v375 : BitVec 1 := Scalar.cmpi .slt c2_i32_326 c0_i32_330
  let v376 : BitVec 32 := Scalar.extui v375
  let v377 : BitVec 32 := Scalar.subi v374 v376
  let v378 : BitVec 1 := Scalar.cmpi .ne v372 v377
  let v379 : BitVec 32 := Scalar.remsi v366 c2_i32_326
  let c0_i32_331 : BitVec 32 := 0#32
  let v380 : BitVec 1 := Scalar.cmpi .ne v379 c0_i32_331
  let v381 : BitVec 1 := Scalar.andi v378 v380
  let v367 : BitVec 32 := Scalar.divsi v366 c2_i32_326
  let c1_i32_332 : BitVec 32 := 1#32
  let v382 : BitVec 32 := Scalar.subi v367 c1_i32_332
  let v383 : BitVec 32 := Scalar.select v381 v382 v367
  let c8_i32_333 : BitVec 32 := 8#32
  let v384 : BitVec 32 := Scalar.muli v383 c8_i32_333
  let c2_i32_334 : BitVec 32 := 2#32
  let c0_i32_335 : BitVec 32 := 0#32
  let v385 : BitVec 1 := Scalar.cmpi .eq c2_i32_334 c0_i32_335
  let c1_i32_336 : BitVec 32 := 1#32
  let v386 : BitVec 32 := Scalar.select v385 c1_i32_336 c2_i32_334
  let v387 : BitVec 32 := Scalar.remsi v366 v386
  let c0_i32_338 : BitVec 32 := 0#32
  let v389 : BitVec 1 := Scalar.cmpi .slt v387 c0_i32_338
  let c0_i32_339 : BitVec 32 := 0#32
  let v390 : BitVec 1 := Scalar.cmpi .slt v386 c0_i32_339
  let v391 : BitVec 1 := Scalar.xori v389 v390
  let c0_i32_337 : BitVec 32 := 0#32
  let v388 : BitVec 1 := Scalar.cmpi .ne v387 c0_i32_337
  let v392 : BitVec 1 := Scalar.andi v391 v388
  let v393 : BitVec 32 := Scalar.addi v387 v386
  let v394 : BitVec 32 := Scalar.select v392 v393 v387
  let c256_i32 : BitVec 32 := 256#32
  let v395 : BitVec 32 := Scalar.muli v394 c256_i32
  ![v18.toNat, v396.toNat, v384.toNat, v395.toNat]
def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_429 : BitVec 32 := 2#32
  let c0_i32_143 : BitVec 32 := 0#32
  let c1_i32_144 : BitVec 32 := 1#32
  let arg10 : BitVec 32 := Scf.iv c0_i32_143 c1_i32_144 k0_t1
  let v512 : BitVec 32 := Scalar.muli c2_i32_429 arg10
  let c0_i32_431 : BitVec 32 := 0#32
  let v514 : BitVec 1 := Scalar.cmpi .sgt v512 c0_i32_431
  let v515 : BitVec 32 := Scalar.extui v514
  let c0_i32_432 : BitVec 32 := 0#32
  let v516 : BitVec 1 := Scalar.cmpi .slt v512 c0_i32_432
  let v517 : BitVec 32 := Scalar.extui v516
  let v518 : BitVec 32 := Scalar.subi v515 v517
  let c2_i32_430 : BitVec 32 := 2#32
  let c0_i32_433 : BitVec 32 := 0#32
  let v519 : BitVec 1 := Scalar.cmpi .sgt c2_i32_430 c0_i32_433
  let v520 : BitVec 32 := Scalar.extui v519
  let c0_i32_434 : BitVec 32 := 0#32
  let v521 : BitVec 1 := Scalar.cmpi .slt c2_i32_430 c0_i32_434
  let v522 : BitVec 32 := Scalar.extui v521
  let v523 : BitVec 32 := Scalar.subi v520 v522
  let v524 : BitVec 1 := Scalar.cmpi .ne v518 v523
  let v525 : BitVec 32 := Scalar.remsi v512 c2_i32_430
  let c0_i32_435 : BitVec 32 := 0#32
  let v526 : BitVec 1 := Scalar.cmpi .ne v525 c0_i32_435
  let v527 : BitVec 1 := Scalar.andi v524 v526
  let v513 : BitVec 32 := Scalar.divsi v512 c2_i32_430
  let c1_i32_436 : BitVec 32 := 1#32
  let v528 : BitVec 32 := Scalar.subi v513 c1_i32_436
  let v529 : BitVec 32 := Scalar.select v527 v528 v513
  let c8_i32_437 : BitVec 32 := 8#32
  let v530 : BitVec 32 := Scalar.muli v529 c8_i32_437
  let c2_i32_438 : BitVec 32 := 2#32
  let c0_i32_439 : BitVec 32 := 0#32
  let v531 : BitVec 1 := Scalar.cmpi .eq c2_i32_438 c0_i32_439
  let c1_i32_440 : BitVec 32 := 1#32
  let v532 : BitVec 32 := Scalar.select v531 c1_i32_440 c2_i32_438
  let v533 : BitVec 32 := Scalar.remsi v512 v532
  let c0_i32_442 : BitVec 32 := 0#32
  let v535 : BitVec 1 := Scalar.cmpi .slt v533 c0_i32_442
  let c0_i32_443 : BitVec 32 := 0#32
  let v536 : BitVec 1 := Scalar.cmpi .slt v532 c0_i32_443
  let v537 : BitVec 1 := Scalar.xori v535 v536
  let c0_i32_441 : BitVec 32 := 0#32
  let v534 : BitVec 1 := Scalar.cmpi .ne v533 c0_i32_441
  let v538 : BitVec 1 := Scalar.andi v537 v534
  let v539 : BitVec 32 := Scalar.addi v533 v532
  let v540 : BitVec 32 := Scalar.select v538 v539 v533
  let c256_i32_444 : BitVec 32 := 256#32
  let v541 : BitVec 32 := Scalar.muli v540 c256_i32_444
  ![v18.toNat, v530.toNat, v541.toNat]
def k0_off6 (i : grid0.Coords) (k0_t1 : Fin k0_t1_loop.trips) (c0_i32_445 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let v542 : BitVec 32 := Scalar.addi v29 c0_i32_445
  let c2_i32_429 : BitVec 32 := 2#32
  let c0_i32_143 : BitVec 32 := 0#32
  let c1_i32_144 : BitVec 32 := 1#32
  let arg10 : BitVec 32 := Scf.iv c0_i32_143 c1_i32_144 k0_t1
  let v512 : BitVec 32 := Scalar.muli c2_i32_429 arg10
  let c0_i32_431 : BitVec 32 := 0#32
  let v514 : BitVec 1 := Scalar.cmpi .sgt v512 c0_i32_431
  let v515 : BitVec 32 := Scalar.extui v514
  let c0_i32_432 : BitVec 32 := 0#32
  let v516 : BitVec 1 := Scalar.cmpi .slt v512 c0_i32_432
  let v517 : BitVec 32 := Scalar.extui v516
  let v518 : BitVec 32 := Scalar.subi v515 v517
  let c2_i32_430 : BitVec 32 := 2#32
  let c0_i32_433 : BitVec 32 := 0#32
  let v519 : BitVec 1 := Scalar.cmpi .sgt c2_i32_430 c0_i32_433
  let v520 : BitVec 32 := Scalar.extui v519
  let c0_i32_434 : BitVec 32 := 0#32
  let v521 : BitVec 1 := Scalar.cmpi .slt c2_i32_430 c0_i32_434
  let v522 : BitVec 32 := Scalar.extui v521
  let v523 : BitVec 32 := Scalar.subi v520 v522
  let v524 : BitVec 1 := Scalar.cmpi .ne v518 v523
  let v525 : BitVec 32 := Scalar.remsi v512 c2_i32_430
  let c0_i32_435 : BitVec 32 := 0#32
  let v526 : BitVec 1 := Scalar.cmpi .ne v525 c0_i32_435
  let v527 : BitVec 1 := Scalar.andi v524 v526
  let v513 : BitVec 32 := Scalar.divsi v512 c2_i32_430
  let c1_i32_436 : BitVec 32 := 1#32
  let v528 : BitVec 32 := Scalar.subi v513 c1_i32_436
  let v529 : BitVec 32 := Scalar.select v527 v528 v513
  let c8_i32_437 : BitVec 32 := 8#32
  let v530 : BitVec 32 := Scalar.muli v529 c8_i32_437
  let c2_i32_438 : BitVec 32 := 2#32
  let c0_i32_439 : BitVec 32 := 0#32
  let v531 : BitVec 1 := Scalar.cmpi .eq c2_i32_438 c0_i32_439
  let c1_i32_440 : BitVec 32 := 1#32
  let v532 : BitVec 32 := Scalar.select v531 c1_i32_440 c2_i32_438
  let v533 : BitVec 32 := Scalar.remsi v512 v532
  let c0_i32_442 : BitVec 32 := 0#32
  let v535 : BitVec 1 := Scalar.cmpi .slt v533 c0_i32_442
  let c0_i32_443 : BitVec 32 := 0#32
  let v536 : BitVec 1 := Scalar.cmpi .slt v532 c0_i32_443
  let v537 : BitVec 1 := Scalar.xori v535 v536
  let c0_i32_441 : BitVec 32 := 0#32
  let v534 : BitVec 1 := Scalar.cmpi .ne v533 c0_i32_441
  let v538 : BitVec 1 := Scalar.andi v537 v534
  let v539 : BitVec 32 := Scalar.addi v533 v532
  let v540 : BitVec 32 := Scalar.select v538 v539 v533
  let c256_i32_444 : BitVec 32 := 256#32
  let v541 : BitVec 32 := Scalar.muli v540 c256_i32_444
  ![v18.toNat, v542.toNat, v530.toNat, v541.toNat]
@[reducible] def k0_t2_loop : Scf.Loop 32 :=
  let c0_i32_534 : BitVec 32 := 0#32
  let c16_i32_535 : BitVec 32 := 16#32
  let v658 : BitVec 32 := Scalar.addi c0_i32_534 c16_i32_535
  let c1_i32_536 : BitVec 32 := 1#32
  ⟨c0_i32_534, v658, c1_i32_536⟩
def k0_mult1 (k0_t2 : Fin k0_t2_loop.trips) : BitVec 32 :=
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  v955
def k0_off7 (k0_t2 : Fin k0_t2_loop.trips) : Fin 3 → Nat :=
  let c0_i32_753 : BitVec 32 := 0#32
  let v957 : Index := Scalar.indexCast c0_i32_753
  let c0_i32_754 : BitVec 32 := 0#32
  let v958 : Index := Scalar.indexCast c0_i32_754
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v959 : Index := Scalar.indexCast v956
  ![0, 0, v959.toNat]
def k0_off8 (k0_t2 : Fin k0_t2_loop.trips) : Fin 4 → Nat :=
  let c0_i32_758 : BitVec 32 := 0#32
  let v968 : Index := Scalar.indexCast c0_i32_758
  let c0_i32_759 : BitVec 32 := 0#32
  let v969 : Index := Scalar.indexCast c0_i32_759
  let c0_i32_760 : BitVec 32 := 0#32
  let v970 : Index := Scalar.indexCast c0_i32_760
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v971 : Index := Scalar.indexCast v956
  ![0, 0, 0, v971.toNat]
def k0_off9 (k0_t2 : Fin k0_t2_loop.trips) : Fin 4 → Nat :=
  let c0_i32_761 : BitVec 32 := 0#32
  let v977 : Index := Scalar.indexCast c0_i32_761
  let c1_i32_762 : BitVec 32 := 1#32
  let v978 : Index := Scalar.indexCast c1_i32_762
  let c0_i32_763 : BitVec 32 := 0#32
  let v979 : Index := Scalar.indexCast c0_i32_763
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v980 : Index := Scalar.indexCast v956
  ![0, 1, 0, v980.toNat]
def k0_off10 (k0_t2 : Fin k0_t2_loop.trips) : Fin 4 → Nat :=
  let c0_i32_764 : BitVec 32 := 0#32
  let v986 : Index := Scalar.indexCast c0_i32_764
  let c2_i32_765 : BitVec 32 := 2#32
  let v987 : Index := Scalar.indexCast c2_i32_765
  let c0_i32_766 : BitVec 32 := 0#32
  let v988 : Index := Scalar.indexCast c0_i32_766
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v989 : Index := Scalar.indexCast v956
  ![0, 2, 0, v989.toNat]
def k0_off11 (k0_t2 : Fin k0_t2_loop.trips) : Fin 4 → Nat :=
  let c0_i32_767 : BitVec 32 := 0#32
  let v995 : Index := Scalar.indexCast c0_i32_767
  let c3_i32_768 : BitVec 32 := 3#32
  let v996 : Index := Scalar.indexCast c3_i32_768
  let c0_i32_769 : BitVec 32 := 0#32
  let v997 : Index := Scalar.indexCast c0_i32_769
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v998 : Index := Scalar.indexCast v956
  ![0, 3, 0, v998.toNat]
def k0_off12 (k0_t2 : Fin k0_t2_loop.trips) : Fin 4 → Nat :=
  let c0_i32_770 : BitVec 32 := 0#32
  let v1004 : Index := Scalar.indexCast c0_i32_770
  let c4_i32_771 : BitVec 32 := 4#32
  let v1005 : Index := Scalar.indexCast c4_i32_771
  let c0_i32_772 : BitVec 32 := 0#32
  let v1006 : Index := Scalar.indexCast c0_i32_772
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1007 : Index := Scalar.indexCast v956
  ![0, 4, 0, v1007.toNat]
def k0_off13 (k0_t2 : Fin k0_t2_loop.trips) : Fin 4 → Nat :=
  let c0_i32_773 : BitVec 32 := 0#32
  let v1013 : Index := Scalar.indexCast c0_i32_773
  let c5_i32_774 : BitVec 32 := 5#32
  let v1014 : Index := Scalar.indexCast c5_i32_774
  let c0_i32_775 : BitVec 32 := 0#32
  let v1015 : Index := Scalar.indexCast c0_i32_775
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1016 : Index := Scalar.indexCast v956
  ![0, 5, 0, v1016.toNat]
def k0_off14 (k0_t2 : Fin k0_t2_loop.trips) : Fin 4 → Nat :=
  let c0_i32_776 : BitVec 32 := 0#32
  let v1022 : Index := Scalar.indexCast c0_i32_776
  let c6_i32_777 : BitVec 32 := 6#32
  let v1023 : Index := Scalar.indexCast c6_i32_777
  let c0_i32_778 : BitVec 32 := 0#32
  let v1024 : Index := Scalar.indexCast c0_i32_778
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1025 : Index := Scalar.indexCast v956
  ![0, 6, 0, v1025.toNat]
def k0_off15 (k0_t2 : Fin k0_t2_loop.trips) : Fin 4 → Nat :=
  let c0_i32_779 : BitVec 32 := 0#32
  let v1031 : Index := Scalar.indexCast c0_i32_779
  let c7_i32_780 : BitVec 32 := 7#32
  let v1032 : Index := Scalar.indexCast c7_i32_780
  let c0_i32_781 : BitVec 32 := 0#32
  let v1033 : Index := Scalar.indexCast c0_i32_781
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1034 : Index := Scalar.indexCast v956
  ![0, 7, 0, v1034.toNat]
def k0_off16 (k0_t2 : Fin k0_t2_loop.trips) : Fin 4 → Nat :=
  let c0_i32_782 : BitVec 32 := 0#32
  let v1040 : Index := Scalar.indexCast c0_i32_782
  let c8_i32_783 : BitVec 32 := 8#32
  let v1041 : Index := Scalar.indexCast c8_i32_783
  let c0_i32_784 : BitVec 32 := 0#32
  let v1042 : Index := Scalar.indexCast c0_i32_784
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1043 : Index := Scalar.indexCast v956
  ![0, 8, 0, v1043.toNat]
def k0_off17 (k0_t2 : Fin k0_t2_loop.trips) : Fin 4 → Nat :=
  let c0_i32_785 : BitVec 32 := 0#32
  let v1049 : Index := Scalar.indexCast c0_i32_785
  let c9_i32_786 : BitVec 32 := 9#32
  let v1050 : Index := Scalar.indexCast c9_i32_786
  let c0_i32_787 : BitVec 32 := 0#32
  let v1051 : Index := Scalar.indexCast c0_i32_787
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1052 : Index := Scalar.indexCast v956
  ![0, 9, 0, v1052.toNat]
def k0_off18 (k0_t2 : Fin k0_t2_loop.trips) : Fin 4 → Nat :=
  let c0_i32_788 : BitVec 32 := 0#32
  let v1058 : Index := Scalar.indexCast c0_i32_788
  let c10_i32_789 : BitVec 32 := 10#32
  let v1059 : Index := Scalar.indexCast c10_i32_789
  let c0_i32_790 : BitVec 32 := 0#32
  let v1060 : Index := Scalar.indexCast c0_i32_790
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1061 : Index := Scalar.indexCast v956
  ![0, 10, 0, v1061.toNat]
def k0_off19 (k0_t2 : Fin k0_t2_loop.trips) : Fin 4 → Nat :=
  let c0_i32_791 : BitVec 32 := 0#32
  let v1067 : Index := Scalar.indexCast c0_i32_791
  let c11_i32_792 : BitVec 32 := 11#32
  let v1068 : Index := Scalar.indexCast c11_i32_792
  let c0_i32_793 : BitVec 32 := 0#32
  let v1069 : Index := Scalar.indexCast c0_i32_793
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1070 : Index := Scalar.indexCast v956
  ![0, 11, 0, v1070.toNat]
def k0_off20 (k0_t2 : Fin k0_t2_loop.trips) : Fin 3 → Nat :=
  let c0_i32_794 : BitVec 32 := 0#32
  let v1076 : Index := Scalar.indexCast c0_i32_794
  let c1_i32_795 : BitVec 32 := 1#32
  let v1077 : Index := Scalar.indexCast c1_i32_795
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1078 : Index := Scalar.indexCast v956
  ![0, 1, v1078.toNat]
def k0_off21 (k0_t2 : Fin k0_t2_loop.trips) : Fin 4 → Nat :=
  let c0_i32_799 : BitVec 32 := 0#32
  let v1087 : Index := Scalar.indexCast c0_i32_799
  let c0_i32_800 : BitVec 32 := 0#32
  let v1088 : Index := Scalar.indexCast c0_i32_800
  let c1_i32_801 : BitVec 32 := 1#32
  let v1089 : Index := Scalar.indexCast c1_i32_801
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1090 : Index := Scalar.indexCast v956
  ![0, 0, 1, v1090.toNat]
def k0_off22 (k0_t2 : Fin k0_t2_loop.trips) : Fin 4 → Nat :=
  let c0_i32_802 : BitVec 32 := 0#32
  let v1096 : Index := Scalar.indexCast c0_i32_802
  let c1_i32_803 : BitVec 32 := 1#32
  let v1097 : Index := Scalar.indexCast c1_i32_803
  let c1_i32_804 : BitVec 32 := 1#32
  let v1098 : Index := Scalar.indexCast c1_i32_804
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1099 : Index := Scalar.indexCast v956
  ![0, 1, 1, v1099.toNat]
def k0_off23 (k0_t2 : Fin k0_t2_loop.trips) : Fin 4 → Nat :=
  let c0_i32_805 : BitVec 32 := 0#32
  let v1105 : Index := Scalar.indexCast c0_i32_805
  let c2_i32_806 : BitVec 32 := 2#32
  let v1106 : Index := Scalar.indexCast c2_i32_806
  let c1_i32_807 : BitVec 32 := 1#32
  let v1107 : Index := Scalar.indexCast c1_i32_807
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1108 : Index := Scalar.indexCast v956
  ![0, 2, 1, v1108.toNat]
def k0_off24 (k0_t2 : Fin k0_t2_loop.trips) : Fin 4 → Nat :=
  let c0_i32_808 : BitVec 32 := 0#32
  let v1114 : Index := Scalar.indexCast c0_i32_808
  let c3_i32_809 : BitVec 32 := 3#32
  let v1115 : Index := Scalar.indexCast c3_i32_809
  let c1_i32_810 : BitVec 32 := 1#32
  let v1116 : Index := Scalar.indexCast c1_i32_810
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1117 : Index := Scalar.indexCast v956
  ![0, 3, 1, v1117.toNat]
def k0_off25 (k0_t2 : Fin k0_t2_loop.trips) : Fin 4 → Nat :=
  let c0_i32_811 : BitVec 32 := 0#32
  let v1123 : Index := Scalar.indexCast c0_i32_811
  let c4_i32_812 : BitVec 32 := 4#32
  let v1124 : Index := Scalar.indexCast c4_i32_812
  let c1_i32_813 : BitVec 32 := 1#32
  let v1125 : Index := Scalar.indexCast c1_i32_813
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1126 : Index := Scalar.indexCast v956
  ![0, 4, 1, v1126.toNat]
def k0_off26 (k0_t2 : Fin k0_t2_loop.trips) : Fin 4 → Nat :=
  let c0_i32_814 : BitVec 32 := 0#32
  let v1132 : Index := Scalar.indexCast c0_i32_814
  let c5_i32_815 : BitVec 32 := 5#32
  let v1133 : Index := Scalar.indexCast c5_i32_815
  let c1_i32_816 : BitVec 32 := 1#32
  let v1134 : Index := Scalar.indexCast c1_i32_816
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1135 : Index := Scalar.indexCast v956
  ![0, 5, 1, v1135.toNat]
def k0_off27 (k0_t2 : Fin k0_t2_loop.trips) : Fin 4 → Nat :=
  let c0_i32_817 : BitVec 32 := 0#32
  let v1141 : Index := Scalar.indexCast c0_i32_817
  let c6_i32_818 : BitVec 32 := 6#32
  let v1142 : Index := Scalar.indexCast c6_i32_818
  let c1_i32_819 : BitVec 32 := 1#32
  let v1143 : Index := Scalar.indexCast c1_i32_819
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1144 : Index := Scalar.indexCast v956
  ![0, 6, 1, v1144.toNat]
def k0_off28 (k0_t2 : Fin k0_t2_loop.trips) : Fin 4 → Nat :=
  let c0_i32_820 : BitVec 32 := 0#32
  let v1150 : Index := Scalar.indexCast c0_i32_820
  let c7_i32_821 : BitVec 32 := 7#32
  let v1151 : Index := Scalar.indexCast c7_i32_821
  let c1_i32_822 : BitVec 32 := 1#32
  let v1152 : Index := Scalar.indexCast c1_i32_822
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1153 : Index := Scalar.indexCast v956
  ![0, 7, 1, v1153.toNat]
def k0_off29 (k0_t2 : Fin k0_t2_loop.trips) : Fin 4 → Nat :=
  let c0_i32_823 : BitVec 32 := 0#32
  let v1159 : Index := Scalar.indexCast c0_i32_823
  let c8_i32_824 : BitVec 32 := 8#32
  let v1160 : Index := Scalar.indexCast c8_i32_824
  let c1_i32_825 : BitVec 32 := 1#32
  let v1161 : Index := Scalar.indexCast c1_i32_825
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1162 : Index := Scalar.indexCast v956
  ![0, 8, 1, v1162.toNat]
def k0_off30 (k0_t2 : Fin k0_t2_loop.trips) : Fin 4 → Nat :=
  let c0_i32_826 : BitVec 32 := 0#32
  let v1168 : Index := Scalar.indexCast c0_i32_826
  let c9_i32_827 : BitVec 32 := 9#32
  let v1169 : Index := Scalar.indexCast c9_i32_827
  let c1_i32_828 : BitVec 32 := 1#32
  let v1170 : Index := Scalar.indexCast c1_i32_828
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1171 : Index := Scalar.indexCast v956
  ![0, 9, 1, v1171.toNat]
def k0_off31 (k0_t2 : Fin k0_t2_loop.trips) : Fin 4 → Nat :=
  let c0_i32_829 : BitVec 32 := 0#32
  let v1177 : Index := Scalar.indexCast c0_i32_829
  let c10_i32_830 : BitVec 32 := 10#32
  let v1178 : Index := Scalar.indexCast c10_i32_830
  let c1_i32_831 : BitVec 32 := 1#32
  let v1179 : Index := Scalar.indexCast c1_i32_831
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1180 : Index := Scalar.indexCast v956
  ![0, 10, 1, v1180.toNat]
def k0_off32 (k0_t2 : Fin k0_t2_loop.trips) : Fin 4 → Nat :=
  let c0_i32_832 : BitVec 32 := 0#32
  let v1186 : Index := Scalar.indexCast c0_i32_832
  let c11_i32_833 : BitVec 32 := 11#32
  let v1187 : Index := Scalar.indexCast c11_i32_833
  let c1_i32_834 : BitVec 32 := 1#32
  let v1188 : Index := Scalar.indexCast c1_i32_834
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1189 : Index := Scalar.indexCast v956
  ![0, 11, 1, v1189.toNat]
def k0_off33 (k0_t2 : Fin k0_t2_loop.trips) : Fin 3 → Nat :=
  let c0_i32_835 : BitVec 32 := 0#32
  let v1195 : Index := Scalar.indexCast c0_i32_835
  let c2_i32_836 : BitVec 32 := 2#32
  let v1196 : Index := Scalar.indexCast c2_i32_836
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1197 : Index := Scalar.indexCast v956
  ![0, 2, v1197.toNat]
def k0_off34 (k0_t2 : Fin k0_t2_loop.trips) : Fin 4 → Nat :=
  let c0_i32_840 : BitVec 32 := 0#32
  let v1206 : Index := Scalar.indexCast c0_i32_840
  let c0_i32_841 : BitVec 32 := 0#32
  let v1207 : Index := Scalar.indexCast c0_i32_841
  let c2_i32_842 : BitVec 32 := 2#32
  let v1208 : Index := Scalar.indexCast c2_i32_842
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1209 : Index := Scalar.indexCast v956
  ![0, 0, 2, v1209.toNat]
def k0_off35 (k0_t2 : Fin k0_t2_loop.trips) : Fin 4 → Nat :=
  let c0_i32_843 : BitVec 32 := 0#32
  let v1215 : Index := Scalar.indexCast c0_i32_843
  let c1_i32_844 : BitVec 32 := 1#32
  let v1216 : Index := Scalar.indexCast c1_i32_844
  let c2_i32_845 : BitVec 32 := 2#32
  let v1217 : Index := Scalar.indexCast c2_i32_845
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1218 : Index := Scalar.indexCast v956
  ![0, 1, 2, v1218.toNat]
def k0_off36 (k0_t2 : Fin k0_t2_loop.trips) : Fin 4 → Nat :=
  let c0_i32_846 : BitVec 32 := 0#32
  let v1224 : Index := Scalar.indexCast c0_i32_846
  let c2_i32_847 : BitVec 32 := 2#32
  let v1225 : Index := Scalar.indexCast c2_i32_847
  let c2_i32_848 : BitVec 32 := 2#32
  let v1226 : Index := Scalar.indexCast c2_i32_848
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1227 : Index := Scalar.indexCast v956
  ![0, 2, 2, v1227.toNat]
def k0_off37 (k0_t2 : Fin k0_t2_loop.trips) : Fin 4 → Nat :=
  let c0_i32_849 : BitVec 32 := 0#32
  let v1233 : Index := Scalar.indexCast c0_i32_849
  let c3_i32_850 : BitVec 32 := 3#32
  let v1234 : Index := Scalar.indexCast c3_i32_850
  let c2_i32_851 : BitVec 32 := 2#32
  let v1235 : Index := Scalar.indexCast c2_i32_851
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1236 : Index := Scalar.indexCast v956
  ![0, 3, 2, v1236.toNat]
def k0_off38 (k0_t2 : Fin k0_t2_loop.trips) : Fin 4 → Nat :=
  let c0_i32_852 : BitVec 32 := 0#32
  let v1242 : Index := Scalar.indexCast c0_i32_852
  let c4_i32_853 : BitVec 32 := 4#32
  let v1243 : Index := Scalar.indexCast c4_i32_853
  let c2_i32_854 : BitVec 32 := 2#32
  let v1244 : Index := Scalar.indexCast c2_i32_854
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1245 : Index := Scalar.indexCast v956
  ![0, 4, 2, v1245.toNat]
def k0_off39 (k0_t2 : Fin k0_t2_loop.trips) : Fin 4 → Nat :=
  let c0_i32_855 : BitVec 32 := 0#32
  let v1251 : Index := Scalar.indexCast c0_i32_855
  let c5_i32_856 : BitVec 32 := 5#32
  let v1252 : Index := Scalar.indexCast c5_i32_856
  let c2_i32_857 : BitVec 32 := 2#32
  let v1253 : Index := Scalar.indexCast c2_i32_857
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1254 : Index := Scalar.indexCast v956
  ![0, 5, 2, v1254.toNat]
def k0_off40 (k0_t2 : Fin k0_t2_loop.trips) : Fin 4 → Nat :=
  let c0_i32_858 : BitVec 32 := 0#32
  let v1260 : Index := Scalar.indexCast c0_i32_858
  let c6_i32_859 : BitVec 32 := 6#32
  let v1261 : Index := Scalar.indexCast c6_i32_859
  let c2_i32_860 : BitVec 32 := 2#32
  let v1262 : Index := Scalar.indexCast c2_i32_860
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1263 : Index := Scalar.indexCast v956
  ![0, 6, 2, v1263.toNat]
def k0_off41 (k0_t2 : Fin k0_t2_loop.trips) : Fin 4 → Nat :=
  let c0_i32_861 : BitVec 32 := 0#32
  let v1269 : Index := Scalar.indexCast c0_i32_861
  let c7_i32_862 : BitVec 32 := 7#32
  let v1270 : Index := Scalar.indexCast c7_i32_862
  let c2_i32_863 : BitVec 32 := 2#32
  let v1271 : Index := Scalar.indexCast c2_i32_863
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1272 : Index := Scalar.indexCast v956
  ![0, 7, 2, v1272.toNat]
def k0_off42 (k0_t2 : Fin k0_t2_loop.trips) : Fin 4 → Nat :=
  let c0_i32_864 : BitVec 32 := 0#32
  let v1278 : Index := Scalar.indexCast c0_i32_864
  let c8_i32_865 : BitVec 32 := 8#32
  let v1279 : Index := Scalar.indexCast c8_i32_865
  let c2_i32_866 : BitVec 32 := 2#32
  let v1280 : Index := Scalar.indexCast c2_i32_866
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1281 : Index := Scalar.indexCast v956
  ![0, 8, 2, v1281.toNat]
def k0_off43 (k0_t2 : Fin k0_t2_loop.trips) : Fin 4 → Nat :=
  let c0_i32_867 : BitVec 32 := 0#32
  let v1287 : Index := Scalar.indexCast c0_i32_867
  let c9_i32_868 : BitVec 32 := 9#32
  let v1288 : Index := Scalar.indexCast c9_i32_868
  let c2_i32_869 : BitVec 32 := 2#32
  let v1289 : Index := Scalar.indexCast c2_i32_869
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1290 : Index := Scalar.indexCast v956
  ![0, 9, 2, v1290.toNat]
def k0_off44 (k0_t2 : Fin k0_t2_loop.trips) : Fin 4 → Nat :=
  let c0_i32_870 : BitVec 32 := 0#32
  let v1296 : Index := Scalar.indexCast c0_i32_870
  let c10_i32_871 : BitVec 32 := 10#32
  let v1297 : Index := Scalar.indexCast c10_i32_871
  let c2_i32_872 : BitVec 32 := 2#32
  let v1298 : Index := Scalar.indexCast c2_i32_872
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1299 : Index := Scalar.indexCast v956
  ![0, 10, 2, v1299.toNat]
def k0_off45 (k0_t2 : Fin k0_t2_loop.trips) : Fin 4 → Nat :=
  let c0_i32_873 : BitVec 32 := 0#32
  let v1305 : Index := Scalar.indexCast c0_i32_873
  let c11_i32_874 : BitVec 32 := 11#32
  let v1306 : Index := Scalar.indexCast c11_i32_874
  let c2_i32_875 : BitVec 32 := 2#32
  let v1307 : Index := Scalar.indexCast c2_i32_875
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1308 : Index := Scalar.indexCast v956
  ![0, 11, 2, v1308.toNat]
def k0_off46 (k0_t2 : Fin k0_t2_loop.trips) : Fin 3 → Nat :=
  let c0_i32_876 : BitVec 32 := 0#32
  let v1314 : Index := Scalar.indexCast c0_i32_876
  let c3_i32_877 : BitVec 32 := 3#32
  let v1315 : Index := Scalar.indexCast c3_i32_877
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1316 : Index := Scalar.indexCast v956
  ![0, 3, v1316.toNat]
def k0_off47 (k0_t2 : Fin k0_t2_loop.trips) : Fin 4 → Nat :=
  let c0_i32_881 : BitVec 32 := 0#32
  let v1325 : Index := Scalar.indexCast c0_i32_881
  let c0_i32_882 : BitVec 32 := 0#32
  let v1326 : Index := Scalar.indexCast c0_i32_882
  let c3_i32_883 : BitVec 32 := 3#32
  let v1327 : Index := Scalar.indexCast c3_i32_883
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1328 : Index := Scalar.indexCast v956
  ![0, 0, 3, v1328.toNat]
def k0_off48 (k0_t2 : Fin k0_t2_loop.trips) : Fin 4 → Nat :=
  let c0_i32_884 : BitVec 32 := 0#32
  let v1334 : Index := Scalar.indexCast c0_i32_884
  let c1_i32_885 : BitVec 32 := 1#32
  let v1335 : Index := Scalar.indexCast c1_i32_885
  let c3_i32_886 : BitVec 32 := 3#32
  let v1336 : Index := Scalar.indexCast c3_i32_886
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1337 : Index := Scalar.indexCast v956
  ![0, 1, 3, v1337.toNat]
def k0_off49 (k0_t2 : Fin k0_t2_loop.trips) : Fin 4 → Nat :=
  let c0_i32_887 : BitVec 32 := 0#32
  let v1343 : Index := Scalar.indexCast c0_i32_887
  let c2_i32_888 : BitVec 32 := 2#32
  let v1344 : Index := Scalar.indexCast c2_i32_888
  let c3_i32_889 : BitVec 32 := 3#32
  let v1345 : Index := Scalar.indexCast c3_i32_889
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1346 : Index := Scalar.indexCast v956
  ![0, 2, 3, v1346.toNat]
def k0_off50 (k0_t2 : Fin k0_t2_loop.trips) : Fin 4 → Nat :=
  let c0_i32_890 : BitVec 32 := 0#32
  let v1352 : Index := Scalar.indexCast c0_i32_890
  let c3_i32_891 : BitVec 32 := 3#32
  let v1353 : Index := Scalar.indexCast c3_i32_891
  let c3_i32_892 : BitVec 32 := 3#32
  let v1354 : Index := Scalar.indexCast c3_i32_892
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1355 : Index := Scalar.indexCast v956
  ![0, 3, 3, v1355.toNat]
def k0_off51 (k0_t2 : Fin k0_t2_loop.trips) : Fin 4 → Nat :=
  let c0_i32_893 : BitVec 32 := 0#32
  let v1361 : Index := Scalar.indexCast c0_i32_893
  let c4_i32_894 : BitVec 32 := 4#32
  let v1362 : Index := Scalar.indexCast c4_i32_894
  let c3_i32_895 : BitVec 32 := 3#32
  let v1363 : Index := Scalar.indexCast c3_i32_895
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1364 : Index := Scalar.indexCast v956
  ![0, 4, 3, v1364.toNat]
def k0_off52 (k0_t2 : Fin k0_t2_loop.trips) : Fin 4 → Nat :=
  let c0_i32_896 : BitVec 32 := 0#32
  let v1370 : Index := Scalar.indexCast c0_i32_896
  let c5_i32_897 : BitVec 32 := 5#32
  let v1371 : Index := Scalar.indexCast c5_i32_897
  let c3_i32_898 : BitVec 32 := 3#32
  let v1372 : Index := Scalar.indexCast c3_i32_898
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1373 : Index := Scalar.indexCast v956
  ![0, 5, 3, v1373.toNat]
def k0_off53 (k0_t2 : Fin k0_t2_loop.trips) : Fin 4 → Nat :=
  let c0_i32_899 : BitVec 32 := 0#32
  let v1379 : Index := Scalar.indexCast c0_i32_899
  let c6_i32_900 : BitVec 32 := 6#32
  let v1380 : Index := Scalar.indexCast c6_i32_900
  let c3_i32_901 : BitVec 32 := 3#32
  let v1381 : Index := Scalar.indexCast c3_i32_901
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1382 : Index := Scalar.indexCast v956
  ![0, 6, 3, v1382.toNat]
def k0_off54 (k0_t2 : Fin k0_t2_loop.trips) : Fin 4 → Nat :=
  let c0_i32_902 : BitVec 32 := 0#32
  let v1388 : Index := Scalar.indexCast c0_i32_902
  let c7_i32_903 : BitVec 32 := 7#32
  let v1389 : Index := Scalar.indexCast c7_i32_903
  let c3_i32_904 : BitVec 32 := 3#32
  let v1390 : Index := Scalar.indexCast c3_i32_904
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1391 : Index := Scalar.indexCast v956
  ![0, 7, 3, v1391.toNat]
def k0_off55 (k0_t2 : Fin k0_t2_loop.trips) : Fin 4 → Nat :=
  let c0_i32_905 : BitVec 32 := 0#32
  let v1397 : Index := Scalar.indexCast c0_i32_905
  let c8_i32_906 : BitVec 32 := 8#32
  let v1398 : Index := Scalar.indexCast c8_i32_906
  let c3_i32_907 : BitVec 32 := 3#32
  let v1399 : Index := Scalar.indexCast c3_i32_907
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1400 : Index := Scalar.indexCast v956
  ![0, 8, 3, v1400.toNat]
def k0_off56 (k0_t2 : Fin k0_t2_loop.trips) : Fin 4 → Nat :=
  let c0_i32_908 : BitVec 32 := 0#32
  let v1406 : Index := Scalar.indexCast c0_i32_908
  let c9_i32_909 : BitVec 32 := 9#32
  let v1407 : Index := Scalar.indexCast c9_i32_909
  let c3_i32_910 : BitVec 32 := 3#32
  let v1408 : Index := Scalar.indexCast c3_i32_910
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1409 : Index := Scalar.indexCast v956
  ![0, 9, 3, v1409.toNat]
def k0_off57 (k0_t2 : Fin k0_t2_loop.trips) : Fin 4 → Nat :=
  let c0_i32_911 : BitVec 32 := 0#32
  let v1415 : Index := Scalar.indexCast c0_i32_911
  let c10_i32_912 : BitVec 32 := 10#32
  let v1416 : Index := Scalar.indexCast c10_i32_912
  let c3_i32_913 : BitVec 32 := 3#32
  let v1417 : Index := Scalar.indexCast c3_i32_913
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1418 : Index := Scalar.indexCast v956
  ![0, 10, 3, v1418.toNat]
def k0_off58 (k0_t2 : Fin k0_t2_loop.trips) : Fin 4 → Nat :=
  let c0_i32_914 : BitVec 32 := 0#32
  let v1424 : Index := Scalar.indexCast c0_i32_914
  let c11_i32_915 : BitVec 32 := 11#32
  let v1425 : Index := Scalar.indexCast c11_i32_915
  let c3_i32_916 : BitVec 32 := 3#32
  let v1426 : Index := Scalar.indexCast c3_i32_916
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1427 : Index := Scalar.indexCast v956
  ![0, 11, 3, v1427.toNat]
def k0_off59 (k0_t2 : Fin k0_t2_loop.trips) : Fin 3 → Nat :=
  let c0_i32_917 : BitVec 32 := 0#32
  let v1433 : Index := Scalar.indexCast c0_i32_917
  let c4_i32_918 : BitVec 32 := 4#32
  let v1434 : Index := Scalar.indexCast c4_i32_918
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1435 : Index := Scalar.indexCast v956
  ![0, 4, v1435.toNat]
def k0_off60 (k0_t2 : Fin k0_t2_loop.trips) : Fin 4 → Nat :=
  let c0_i32_922 : BitVec 32 := 0#32
  let v1444 : Index := Scalar.indexCast c0_i32_922
  let c0_i32_923 : BitVec 32 := 0#32
  let v1445 : Index := Scalar.indexCast c0_i32_923
  let c4_i32_924 : BitVec 32 := 4#32
  let v1446 : Index := Scalar.indexCast c4_i32_924
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1447 : Index := Scalar.indexCast v956
  ![0, 0, 4, v1447.toNat]
def k0_off61 (k0_t2 : Fin k0_t2_loop.trips) : Fin 4 → Nat :=
  let c0_i32_925 : BitVec 32 := 0#32
  let v1453 : Index := Scalar.indexCast c0_i32_925
  let c1_i32_926 : BitVec 32 := 1#32
  let v1454 : Index := Scalar.indexCast c1_i32_926
  let c4_i32_927 : BitVec 32 := 4#32
  let v1455 : Index := Scalar.indexCast c4_i32_927
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1456 : Index := Scalar.indexCast v956
  ![0, 1, 4, v1456.toNat]
def k0_off62 (k0_t2 : Fin k0_t2_loop.trips) : Fin 4 → Nat :=
  let c0_i32_928 : BitVec 32 := 0#32
  let v1462 : Index := Scalar.indexCast c0_i32_928
  let c2_i32_929 : BitVec 32 := 2#32
  let v1463 : Index := Scalar.indexCast c2_i32_929
  let c4_i32_930 : BitVec 32 := 4#32
  let v1464 : Index := Scalar.indexCast c4_i32_930
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1465 : Index := Scalar.indexCast v956
  ![0, 2, 4, v1465.toNat]
def k0_off63 (k0_t2 : Fin k0_t2_loop.trips) : Fin 4 → Nat :=
  let c0_i32_931 : BitVec 32 := 0#32
  let v1471 : Index := Scalar.indexCast c0_i32_931
  let c3_i32_932 : BitVec 32 := 3#32
  let v1472 : Index := Scalar.indexCast c3_i32_932
  let c4_i32_933 : BitVec 32 := 4#32
  let v1473 : Index := Scalar.indexCast c4_i32_933
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1474 : Index := Scalar.indexCast v956
  ![0, 3, 4, v1474.toNat]
def k0_off64 (k0_t2 : Fin k0_t2_loop.trips) : Fin 4 → Nat :=
  let c0_i32_934 : BitVec 32 := 0#32
  let v1480 : Index := Scalar.indexCast c0_i32_934
  let c4_i32_935 : BitVec 32 := 4#32
  let v1481 : Index := Scalar.indexCast c4_i32_935
  let c4_i32_936 : BitVec 32 := 4#32
  let v1482 : Index := Scalar.indexCast c4_i32_936
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1483 : Index := Scalar.indexCast v956
  ![0, 4, 4, v1483.toNat]
def k0_off65 (k0_t2 : Fin k0_t2_loop.trips) : Fin 4 → Nat :=
  let c0_i32_937 : BitVec 32 := 0#32
  let v1489 : Index := Scalar.indexCast c0_i32_937
  let c5_i32_938 : BitVec 32 := 5#32
  let v1490 : Index := Scalar.indexCast c5_i32_938
  let c4_i32_939 : BitVec 32 := 4#32
  let v1491 : Index := Scalar.indexCast c4_i32_939
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1492 : Index := Scalar.indexCast v956
  ![0, 5, 4, v1492.toNat]
def k0_off66 (k0_t2 : Fin k0_t2_loop.trips) : Fin 4 → Nat :=
  let c0_i32_940 : BitVec 32 := 0#32
  let v1498 : Index := Scalar.indexCast c0_i32_940
  let c6_i32_941 : BitVec 32 := 6#32
  let v1499 : Index := Scalar.indexCast c6_i32_941
  let c4_i32_942 : BitVec 32 := 4#32
  let v1500 : Index := Scalar.indexCast c4_i32_942
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1501 : Index := Scalar.indexCast v956
  ![0, 6, 4, v1501.toNat]
def k0_off67 (k0_t2 : Fin k0_t2_loop.trips) : Fin 4 → Nat :=
  let c0_i32_943 : BitVec 32 := 0#32
  let v1507 : Index := Scalar.indexCast c0_i32_943
  let c7_i32_944 : BitVec 32 := 7#32
  let v1508 : Index := Scalar.indexCast c7_i32_944
  let c4_i32_945 : BitVec 32 := 4#32
  let v1509 : Index := Scalar.indexCast c4_i32_945
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1510 : Index := Scalar.indexCast v956
  ![0, 7, 4, v1510.toNat]
def k0_off68 (k0_t2 : Fin k0_t2_loop.trips) : Fin 4 → Nat :=
  let c0_i32_946 : BitVec 32 := 0#32
  let v1516 : Index := Scalar.indexCast c0_i32_946
  let c8_i32_947 : BitVec 32 := 8#32
  let v1517 : Index := Scalar.indexCast c8_i32_947
  let c4_i32_948 : BitVec 32 := 4#32
  let v1518 : Index := Scalar.indexCast c4_i32_948
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1519 : Index := Scalar.indexCast v956
  ![0, 8, 4, v1519.toNat]
def k0_off69 (k0_t2 : Fin k0_t2_loop.trips) : Fin 4 → Nat :=
  let c0_i32_949 : BitVec 32 := 0#32
  let v1525 : Index := Scalar.indexCast c0_i32_949
  let c9_i32_950 : BitVec 32 := 9#32
  let v1526 : Index := Scalar.indexCast c9_i32_950
  let c4_i32_951 : BitVec 32 := 4#32
  let v1527 : Index := Scalar.indexCast c4_i32_951
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1528 : Index := Scalar.indexCast v956
  ![0, 9, 4, v1528.toNat]
def k0_off70 (k0_t2 : Fin k0_t2_loop.trips) : Fin 4 → Nat :=
  let c0_i32_952 : BitVec 32 := 0#32
  let v1534 : Index := Scalar.indexCast c0_i32_952
  let c10_i32_953 : BitVec 32 := 10#32
  let v1535 : Index := Scalar.indexCast c10_i32_953
  let c4_i32_954 : BitVec 32 := 4#32
  let v1536 : Index := Scalar.indexCast c4_i32_954
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1537 : Index := Scalar.indexCast v956
  ![0, 10, 4, v1537.toNat]
def k0_off71 (k0_t2 : Fin k0_t2_loop.trips) : Fin 4 → Nat :=
  let c0_i32_955 : BitVec 32 := 0#32
  let v1543 : Index := Scalar.indexCast c0_i32_955
  let c11_i32_956 : BitVec 32 := 11#32
  let v1544 : Index := Scalar.indexCast c11_i32_956
  let c4_i32_957 : BitVec 32 := 4#32
  let v1545 : Index := Scalar.indexCast c4_i32_957
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1546 : Index := Scalar.indexCast v956
  ![0, 11, 4, v1546.toNat]
def k0_off72 (k0_t2 : Fin k0_t2_loop.trips) : Fin 3 → Nat :=
  let c0_i32_958 : BitVec 32 := 0#32
  let v1552 : Index := Scalar.indexCast c0_i32_958
  let c5_i32_959 : BitVec 32 := 5#32
  let v1553 : Index := Scalar.indexCast c5_i32_959
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1554 : Index := Scalar.indexCast v956
  ![0, 5, v1554.toNat]
def k0_off73 (k0_t2 : Fin k0_t2_loop.trips) : Fin 4 → Nat :=
  let c0_i32_963 : BitVec 32 := 0#32
  let v1563 : Index := Scalar.indexCast c0_i32_963
  let c0_i32_964 : BitVec 32 := 0#32
  let v1564 : Index := Scalar.indexCast c0_i32_964
  let c5_i32_965 : BitVec 32 := 5#32
  let v1565 : Index := Scalar.indexCast c5_i32_965
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1566 : Index := Scalar.indexCast v956
  ![0, 0, 5, v1566.toNat]
def k0_off74 (k0_t2 : Fin k0_t2_loop.trips) : Fin 4 → Nat :=
  let c0_i32_966 : BitVec 32 := 0#32
  let v1572 : Index := Scalar.indexCast c0_i32_966
  let c1_i32_967 : BitVec 32 := 1#32
  let v1573 : Index := Scalar.indexCast c1_i32_967
  let c5_i32_968 : BitVec 32 := 5#32
  let v1574 : Index := Scalar.indexCast c5_i32_968
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1575 : Index := Scalar.indexCast v956
  ![0, 1, 5, v1575.toNat]
def k0_off75 (k0_t2 : Fin k0_t2_loop.trips) : Fin 4 → Nat :=
  let c0_i32_969 : BitVec 32 := 0#32
  let v1581 : Index := Scalar.indexCast c0_i32_969
  let c2_i32_970 : BitVec 32 := 2#32
  let v1582 : Index := Scalar.indexCast c2_i32_970
  let c5_i32_971 : BitVec 32 := 5#32
  let v1583 : Index := Scalar.indexCast c5_i32_971
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1584 : Index := Scalar.indexCast v956
  ![0, 2, 5, v1584.toNat]
def k0_off76 (k0_t2 : Fin k0_t2_loop.trips) : Fin 4 → Nat :=
  let c0_i32_972 : BitVec 32 := 0#32
  let v1590 : Index := Scalar.indexCast c0_i32_972
  let c3_i32_973 : BitVec 32 := 3#32
  let v1591 : Index := Scalar.indexCast c3_i32_973
  let c5_i32_974 : BitVec 32 := 5#32
  let v1592 : Index := Scalar.indexCast c5_i32_974
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1593 : Index := Scalar.indexCast v956
  ![0, 3, 5, v1593.toNat]
def k0_off77 (k0_t2 : Fin k0_t2_loop.trips) : Fin 4 → Nat :=
  let c0_i32_975 : BitVec 32 := 0#32
  let v1599 : Index := Scalar.indexCast c0_i32_975
  let c4_i32_976 : BitVec 32 := 4#32
  let v1600 : Index := Scalar.indexCast c4_i32_976
  let c5_i32_977 : BitVec 32 := 5#32
  let v1601 : Index := Scalar.indexCast c5_i32_977
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1602 : Index := Scalar.indexCast v956
  ![0, 4, 5, v1602.toNat]
def k0_off78 (k0_t2 : Fin k0_t2_loop.trips) : Fin 4 → Nat :=
  let c0_i32_978 : BitVec 32 := 0#32
  let v1608 : Index := Scalar.indexCast c0_i32_978
  let c5_i32_979 : BitVec 32 := 5#32
  let v1609 : Index := Scalar.indexCast c5_i32_979
  let c5_i32_980 : BitVec 32 := 5#32
  let v1610 : Index := Scalar.indexCast c5_i32_980
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1611 : Index := Scalar.indexCast v956
  ![0, 5, 5, v1611.toNat]
def k0_off79 (k0_t2 : Fin k0_t2_loop.trips) : Fin 4 → Nat :=
  let c0_i32_981 : BitVec 32 := 0#32
  let v1617 : Index := Scalar.indexCast c0_i32_981
  let c6_i32_982 : BitVec 32 := 6#32
  let v1618 : Index := Scalar.indexCast c6_i32_982
  let c5_i32_983 : BitVec 32 := 5#32
  let v1619 : Index := Scalar.indexCast c5_i32_983
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1620 : Index := Scalar.indexCast v956
  ![0, 6, 5, v1620.toNat]
def k0_off80 (k0_t2 : Fin k0_t2_loop.trips) : Fin 4 → Nat :=
  let c0_i32_984 : BitVec 32 := 0#32
  let v1626 : Index := Scalar.indexCast c0_i32_984
  let c7_i32_985 : BitVec 32 := 7#32
  let v1627 : Index := Scalar.indexCast c7_i32_985
  let c5_i32_986 : BitVec 32 := 5#32
  let v1628 : Index := Scalar.indexCast c5_i32_986
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1629 : Index := Scalar.indexCast v956
  ![0, 7, 5, v1629.toNat]
def k0_off81 (k0_t2 : Fin k0_t2_loop.trips) : Fin 4 → Nat :=
  let c0_i32_987 : BitVec 32 := 0#32
  let v1635 : Index := Scalar.indexCast c0_i32_987
  let c8_i32_988 : BitVec 32 := 8#32
  let v1636 : Index := Scalar.indexCast c8_i32_988
  let c5_i32_989 : BitVec 32 := 5#32
  let v1637 : Index := Scalar.indexCast c5_i32_989
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1638 : Index := Scalar.indexCast v956
  ![0, 8, 5, v1638.toNat]
def k0_off82 (k0_t2 : Fin k0_t2_loop.trips) : Fin 4 → Nat :=
  let c0_i32_990 : BitVec 32 := 0#32
  let v1644 : Index := Scalar.indexCast c0_i32_990
  let c9_i32_991 : BitVec 32 := 9#32
  let v1645 : Index := Scalar.indexCast c9_i32_991
  let c5_i32_992 : BitVec 32 := 5#32
  let v1646 : Index := Scalar.indexCast c5_i32_992
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1647 : Index := Scalar.indexCast v956
  ![0, 9, 5, v1647.toNat]
def k0_off83 (k0_t2 : Fin k0_t2_loop.trips) : Fin 4 → Nat :=
  let c0_i32_993 : BitVec 32 := 0#32
  let v1653 : Index := Scalar.indexCast c0_i32_993
  let c10_i32_994 : BitVec 32 := 10#32
  let v1654 : Index := Scalar.indexCast c10_i32_994
  let c5_i32_995 : BitVec 32 := 5#32
  let v1655 : Index := Scalar.indexCast c5_i32_995
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1656 : Index := Scalar.indexCast v956
  ![0, 10, 5, v1656.toNat]
def k0_off84 (k0_t2 : Fin k0_t2_loop.trips) : Fin 4 → Nat :=
  let c0_i32_996 : BitVec 32 := 0#32
  let v1662 : Index := Scalar.indexCast c0_i32_996
  let c11_i32_997 : BitVec 32 := 11#32
  let v1663 : Index := Scalar.indexCast c11_i32_997
  let c5_i32_998 : BitVec 32 := 5#32
  let v1664 : Index := Scalar.indexCast c5_i32_998
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1665 : Index := Scalar.indexCast v956
  ![0, 11, 5, v1665.toNat]
def k0_off85 (k0_t2 : Fin k0_t2_loop.trips) : Fin 3 → Nat :=
  let c0_i32_999 : BitVec 32 := 0#32
  let v1671 : Index := Scalar.indexCast c0_i32_999
  let c6_i32_1000 : BitVec 32 := 6#32
  let v1672 : Index := Scalar.indexCast c6_i32_1000
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1673 : Index := Scalar.indexCast v956
  ![0, 6, v1673.toNat]
def k0_off86 (k0_t2 : Fin k0_t2_loop.trips) : Fin 4 → Nat :=
  let c0_i32_1004 : BitVec 32 := 0#32
  let v1682 : Index := Scalar.indexCast c0_i32_1004
  let c0_i32_1005 : BitVec 32 := 0#32
  let v1683 : Index := Scalar.indexCast c0_i32_1005
  let c6_i32_1006 : BitVec 32 := 6#32
  let v1684 : Index := Scalar.indexCast c6_i32_1006
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1685 : Index := Scalar.indexCast v956
  ![0, 0, 6, v1685.toNat]
def k0_off87 (k0_t2 : Fin k0_t2_loop.trips) : Fin 4 → Nat :=
  let c0_i32_1007 : BitVec 32 := 0#32
  let v1691 : Index := Scalar.indexCast c0_i32_1007
  let c1_i32_1008 : BitVec 32 := 1#32
  let v1692 : Index := Scalar.indexCast c1_i32_1008
  let c6_i32_1009 : BitVec 32 := 6#32
  let v1693 : Index := Scalar.indexCast c6_i32_1009
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1694 : Index := Scalar.indexCast v956
  ![0, 1, 6, v1694.toNat]
def k0_off88 (k0_t2 : Fin k0_t2_loop.trips) : Fin 4 → Nat :=
  let c0_i32_1010 : BitVec 32 := 0#32
  let v1700 : Index := Scalar.indexCast c0_i32_1010
  let c2_i32_1011 : BitVec 32 := 2#32
  let v1701 : Index := Scalar.indexCast c2_i32_1011
  let c6_i32_1012 : BitVec 32 := 6#32
  let v1702 : Index := Scalar.indexCast c6_i32_1012
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1703 : Index := Scalar.indexCast v956
  ![0, 2, 6, v1703.toNat]
def k0_off89 (k0_t2 : Fin k0_t2_loop.trips) : Fin 4 → Nat :=
  let c0_i32_1013 : BitVec 32 := 0#32
  let v1709 : Index := Scalar.indexCast c0_i32_1013
  let c3_i32_1014 : BitVec 32 := 3#32
  let v1710 : Index := Scalar.indexCast c3_i32_1014
  let c6_i32_1015 : BitVec 32 := 6#32
  let v1711 : Index := Scalar.indexCast c6_i32_1015
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1712 : Index := Scalar.indexCast v956
  ![0, 3, 6, v1712.toNat]
def k0_off90 (k0_t2 : Fin k0_t2_loop.trips) : Fin 4 → Nat :=
  let c0_i32_1016 : BitVec 32 := 0#32
  let v1718 : Index := Scalar.indexCast c0_i32_1016
  let c4_i32_1017 : BitVec 32 := 4#32
  let v1719 : Index := Scalar.indexCast c4_i32_1017
  let c6_i32_1018 : BitVec 32 := 6#32
  let v1720 : Index := Scalar.indexCast c6_i32_1018
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1721 : Index := Scalar.indexCast v956
  ![0, 4, 6, v1721.toNat]
def k0_off91 (k0_t2 : Fin k0_t2_loop.trips) : Fin 4 → Nat :=
  let c0_i32_1019 : BitVec 32 := 0#32
  let v1727 : Index := Scalar.indexCast c0_i32_1019
  let c5_i32_1020 : BitVec 32 := 5#32
  let v1728 : Index := Scalar.indexCast c5_i32_1020
  let c6_i32_1021 : BitVec 32 := 6#32
  let v1729 : Index := Scalar.indexCast c6_i32_1021
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1730 : Index := Scalar.indexCast v956
  ![0, 5, 6, v1730.toNat]
def k0_off92 (k0_t2 : Fin k0_t2_loop.trips) : Fin 4 → Nat :=
  let c0_i32_1022 : BitVec 32 := 0#32
  let v1736 : Index := Scalar.indexCast c0_i32_1022
  let c6_i32_1023 : BitVec 32 := 6#32
  let v1737 : Index := Scalar.indexCast c6_i32_1023
  let c6_i32_1024 : BitVec 32 := 6#32
  let v1738 : Index := Scalar.indexCast c6_i32_1024
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1739 : Index := Scalar.indexCast v956
  ![0, 6, 6, v1739.toNat]
def k0_off93 (k0_t2 : Fin k0_t2_loop.trips) : Fin 4 → Nat :=
  let c0_i32_1025 : BitVec 32 := 0#32
  let v1745 : Index := Scalar.indexCast c0_i32_1025
  let c7_i32_1026 : BitVec 32 := 7#32
  let v1746 : Index := Scalar.indexCast c7_i32_1026
  let c6_i32_1027 : BitVec 32 := 6#32
  let v1747 : Index := Scalar.indexCast c6_i32_1027
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1748 : Index := Scalar.indexCast v956
  ![0, 7, 6, v1748.toNat]
def k0_off94 (k0_t2 : Fin k0_t2_loop.trips) : Fin 4 → Nat :=
  let c0_i32_1028 : BitVec 32 := 0#32
  let v1754 : Index := Scalar.indexCast c0_i32_1028
  let c8_i32_1029 : BitVec 32 := 8#32
  let v1755 : Index := Scalar.indexCast c8_i32_1029
  let c6_i32_1030 : BitVec 32 := 6#32
  let v1756 : Index := Scalar.indexCast c6_i32_1030
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1757 : Index := Scalar.indexCast v956
  ![0, 8, 6, v1757.toNat]
def k0_off95 (k0_t2 : Fin k0_t2_loop.trips) : Fin 4 → Nat :=
  let c0_i32_1031 : BitVec 32 := 0#32
  let v1763 : Index := Scalar.indexCast c0_i32_1031
  let c9_i32_1032 : BitVec 32 := 9#32
  let v1764 : Index := Scalar.indexCast c9_i32_1032
  let c6_i32_1033 : BitVec 32 := 6#32
  let v1765 : Index := Scalar.indexCast c6_i32_1033
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1766 : Index := Scalar.indexCast v956
  ![0, 9, 6, v1766.toNat]
def k0_off96 (k0_t2 : Fin k0_t2_loop.trips) : Fin 4 → Nat :=
  let c0_i32_1034 : BitVec 32 := 0#32
  let v1772 : Index := Scalar.indexCast c0_i32_1034
  let c10_i32_1035 : BitVec 32 := 10#32
  let v1773 : Index := Scalar.indexCast c10_i32_1035
  let c6_i32_1036 : BitVec 32 := 6#32
  let v1774 : Index := Scalar.indexCast c6_i32_1036
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1775 : Index := Scalar.indexCast v956
  ![0, 10, 6, v1775.toNat]
def k0_off97 (k0_t2 : Fin k0_t2_loop.trips) : Fin 4 → Nat :=
  let c0_i32_1037 : BitVec 32 := 0#32
  let v1781 : Index := Scalar.indexCast c0_i32_1037
  let c11_i32_1038 : BitVec 32 := 11#32
  let v1782 : Index := Scalar.indexCast c11_i32_1038
  let c6_i32_1039 : BitVec 32 := 6#32
  let v1783 : Index := Scalar.indexCast c6_i32_1039
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1784 : Index := Scalar.indexCast v956
  ![0, 11, 6, v1784.toNat]
def k0_off98 (k0_t2 : Fin k0_t2_loop.trips) : Fin 3 → Nat :=
  let c0_i32_1040 : BitVec 32 := 0#32
  let v1790 : Index := Scalar.indexCast c0_i32_1040
  let c7_i32_1041 : BitVec 32 := 7#32
  let v1791 : Index := Scalar.indexCast c7_i32_1041
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1792 : Index := Scalar.indexCast v956
  ![0, 7, v1792.toNat]
def k0_off99 (k0_t2 : Fin k0_t2_loop.trips) : Fin 4 → Nat :=
  let c0_i32_1045 : BitVec 32 := 0#32
  let v1801 : Index := Scalar.indexCast c0_i32_1045
  let c0_i32_1046 : BitVec 32 := 0#32
  let v1802 : Index := Scalar.indexCast c0_i32_1046
  let c7_i32_1047 : BitVec 32 := 7#32
  let v1803 : Index := Scalar.indexCast c7_i32_1047
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1804 : Index := Scalar.indexCast v956
  ![0, 0, 7, v1804.toNat]
def k0_off100 (k0_t2 : Fin k0_t2_loop.trips) : Fin 4 → Nat :=
  let c0_i32_1048 : BitVec 32 := 0#32
  let v1810 : Index := Scalar.indexCast c0_i32_1048
  let c1_i32_1049 : BitVec 32 := 1#32
  let v1811 : Index := Scalar.indexCast c1_i32_1049
  let c7_i32_1050 : BitVec 32 := 7#32
  let v1812 : Index := Scalar.indexCast c7_i32_1050
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1813 : Index := Scalar.indexCast v956
  ![0, 1, 7, v1813.toNat]
def k0_off101 (k0_t2 : Fin k0_t2_loop.trips) : Fin 4 → Nat :=
  let c0_i32_1051 : BitVec 32 := 0#32
  let v1819 : Index := Scalar.indexCast c0_i32_1051
  let c2_i32_1052 : BitVec 32 := 2#32
  let v1820 : Index := Scalar.indexCast c2_i32_1052
  let c7_i32_1053 : BitVec 32 := 7#32
  let v1821 : Index := Scalar.indexCast c7_i32_1053
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1822 : Index := Scalar.indexCast v956
  ![0, 2, 7, v1822.toNat]
def k0_off102 (k0_t2 : Fin k0_t2_loop.trips) : Fin 4 → Nat :=
  let c0_i32_1054 : BitVec 32 := 0#32
  let v1828 : Index := Scalar.indexCast c0_i32_1054
  let c3_i32_1055 : BitVec 32 := 3#32
  let v1829 : Index := Scalar.indexCast c3_i32_1055
  let c7_i32_1056 : BitVec 32 := 7#32
  let v1830 : Index := Scalar.indexCast c7_i32_1056
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1831 : Index := Scalar.indexCast v956
  ![0, 3, 7, v1831.toNat]
def k0_off103 (k0_t2 : Fin k0_t2_loop.trips) : Fin 4 → Nat :=
  let c0_i32_1057 : BitVec 32 := 0#32
  let v1837 : Index := Scalar.indexCast c0_i32_1057
  let c4_i32_1058 : BitVec 32 := 4#32
  let v1838 : Index := Scalar.indexCast c4_i32_1058
  let c7_i32_1059 : BitVec 32 := 7#32
  let v1839 : Index := Scalar.indexCast c7_i32_1059
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1840 : Index := Scalar.indexCast v956
  ![0, 4, 7, v1840.toNat]
def k0_off104 (k0_t2 : Fin k0_t2_loop.trips) : Fin 4 → Nat :=
  let c0_i32_1060 : BitVec 32 := 0#32
  let v1846 : Index := Scalar.indexCast c0_i32_1060
  let c5_i32_1061 : BitVec 32 := 5#32
  let v1847 : Index := Scalar.indexCast c5_i32_1061
  let c7_i32_1062 : BitVec 32 := 7#32
  let v1848 : Index := Scalar.indexCast c7_i32_1062
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1849 : Index := Scalar.indexCast v956
  ![0, 5, 7, v1849.toNat]
def k0_off105 (k0_t2 : Fin k0_t2_loop.trips) : Fin 4 → Nat :=
  let c0_i32_1063 : BitVec 32 := 0#32
  let v1855 : Index := Scalar.indexCast c0_i32_1063
  let c6_i32_1064 : BitVec 32 := 6#32
  let v1856 : Index := Scalar.indexCast c6_i32_1064
  let c7_i32_1065 : BitVec 32 := 7#32
  let v1857 : Index := Scalar.indexCast c7_i32_1065
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1858 : Index := Scalar.indexCast v956
  ![0, 6, 7, v1858.toNat]
def k0_off106 (k0_t2 : Fin k0_t2_loop.trips) : Fin 4 → Nat :=
  let c0_i32_1066 : BitVec 32 := 0#32
  let v1864 : Index := Scalar.indexCast c0_i32_1066
  let c7_i32_1067 : BitVec 32 := 7#32
  let v1865 : Index := Scalar.indexCast c7_i32_1067
  let c7_i32_1068 : BitVec 32 := 7#32
  let v1866 : Index := Scalar.indexCast c7_i32_1068
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1867 : Index := Scalar.indexCast v956
  ![0, 7, 7, v1867.toNat]
def k0_off107 (k0_t2 : Fin k0_t2_loop.trips) : Fin 4 → Nat :=
  let c0_i32_1069 : BitVec 32 := 0#32
  let v1873 : Index := Scalar.indexCast c0_i32_1069
  let c8_i32_1070 : BitVec 32 := 8#32
  let v1874 : Index := Scalar.indexCast c8_i32_1070
  let c7_i32_1071 : BitVec 32 := 7#32
  let v1875 : Index := Scalar.indexCast c7_i32_1071
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1876 : Index := Scalar.indexCast v956
  ![0, 8, 7, v1876.toNat]
def k0_off108 (k0_t2 : Fin k0_t2_loop.trips) : Fin 4 → Nat :=
  let c0_i32_1072 : BitVec 32 := 0#32
  let v1882 : Index := Scalar.indexCast c0_i32_1072
  let c9_i32_1073 : BitVec 32 := 9#32
  let v1883 : Index := Scalar.indexCast c9_i32_1073
  let c7_i32_1074 : BitVec 32 := 7#32
  let v1884 : Index := Scalar.indexCast c7_i32_1074
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1885 : Index := Scalar.indexCast v956
  ![0, 9, 7, v1885.toNat]
def k0_off109 (k0_t2 : Fin k0_t2_loop.trips) : Fin 4 → Nat :=
  let c0_i32_1075 : BitVec 32 := 0#32
  let v1891 : Index := Scalar.indexCast c0_i32_1075
  let c10_i32_1076 : BitVec 32 := 10#32
  let v1892 : Index := Scalar.indexCast c10_i32_1076
  let c7_i32_1077 : BitVec 32 := 7#32
  let v1893 : Index := Scalar.indexCast c7_i32_1077
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1894 : Index := Scalar.indexCast v956
  ![0, 10, 7, v1894.toNat]
def k0_off110 (k0_t2 : Fin k0_t2_loop.trips) : Fin 4 → Nat :=
  let c0_i32_1078 : BitVec 32 := 0#32
  let v1900 : Index := Scalar.indexCast c0_i32_1078
  let c11_i32_1079 : BitVec 32 := 11#32
  let v1901 : Index := Scalar.indexCast c11_i32_1079
  let c7_i32_1080 : BitVec 32 := 7#32
  let v1902 : Index := Scalar.indexCast c7_i32_1080
  let c0_i32_534 : BitVec 32 := 0#32
  let c1_i32_536 : BitVec 32 := 1#32
  let arg36 : BitVec 32 := Scf.iv c0_i32_534 c1_i32_536 k0_t2
  let c16_i32_752 : BitVec 32 := 16#32
  let v955 : BitVec 32 := Scalar.muli arg36 c16_i32_752
  let v956 : BitVec 32 := v955
  let v1903 : Index := Scalar.indexCast v956
  ![0, 11, 7, v1903.toNat]
def k0_off111 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_538 : BitVec 32 := 2#32
  let c0_i32_143 : BitVec 32 := 0#32
  let c1_i32_144 : BitVec 32 := 1#32
  let arg10 : BitVec 32 := Scf.iv c0_i32_143 c1_i32_144 k0_t1
  let v660 : BitVec 32 := Scalar.muli c2_i32_538 arg10
  let c2_i32_539 : BitVec 32 := 2#32
  let v661 : BitVec 32 := Scalar.addi v660 c2_i32_539
  let c128_i32 : BitVec 32 := 128#32
  let v662 : BitVec 32 := Scalar.remsi v661 c128_i32
  let c0_i32_541 : BitVec 32 := 0#32
  let v664 : BitVec 1 := Scalar.cmpi .sgt v662 c0_i32_541
  let v665 : BitVec 32 := Scalar.extui v664
  let c0_i32_542 : BitVec 32 := 0#32
  let v666 : BitVec 1 := Scalar.cmpi .slt v662 c0_i32_542
  let v667 : BitVec 32 := Scalar.extui v666
  let v668 : BitVec 32 := Scalar.subi v665 v667
  let c2_i32_540 : BitVec 32 := 2#32
  let c0_i32_543 : BitVec 32 := 0#32
  let v669 : BitVec 1 := Scalar.cmpi .sgt c2_i32_540 c0_i32_543
  let v670 : BitVec 32 := Scalar.extui v669
  let c0_i32_544 : BitVec 32 := 0#32
  let v671 : BitVec 1 := Scalar.cmpi .slt c2_i32_540 c0_i32_544
  let v672 : BitVec 32 := Scalar.extui v671
  let v673 : BitVec 32 := Scalar.subi v670 v672
  let v674 : BitVec 1 := Scalar.cmpi .ne v668 v673
  let v675 : BitVec 32 := Scalar.remsi v662 c2_i32_540
  let c0_i32_545 : BitVec 32 := 0#32
  let v676 : BitVec 1 := Scalar.cmpi .ne v675 c0_i32_545
  let v677 : BitVec 1 := Scalar.andi v674 v676
  let v663 : BitVec 32 := Scalar.divsi v662 c2_i32_540
  let c1_i32_546 : BitVec 32 := 1#32
  let v678 : BitVec 32 := Scalar.subi v663 c1_i32_546
  let v679 : BitVec 32 := Scalar.select v677 v678 v663
  let c8_i32_547 : BitVec 32 := 8#32
  let v680 : BitVec 32 := Scalar.muli v679 c8_i32_547
  let c2_i32_548 : BitVec 32 := 2#32
  let c0_i32_549 : BitVec 32 := 0#32
  let v681 : BitVec 1 := Scalar.cmpi .eq c2_i32_548 c0_i32_549
  let c1_i32_550 : BitVec 32 := 1#32
  let v682 : BitVec 32 := Scalar.select v681 c1_i32_550 c2_i32_548
  let v683 : BitVec 32 := Scalar.remsi v662 v682
  let c0_i32_552 : BitVec 32 := 0#32
  let v685 : BitVec 1 := Scalar.cmpi .slt v683 c0_i32_552
  let c0_i32_553 : BitVec 32 := 0#32
  let v686 : BitVec 1 := Scalar.cmpi .slt v682 c0_i32_553
  let v687 : BitVec 1 := Scalar.xori v685 v686
  let c0_i32_551 : BitVec 32 := 0#32
  let v684 : BitVec 1 := Scalar.cmpi .ne v683 c0_i32_551
  let v688 : BitVec 1 := Scalar.andi v687 v684
  let v689 : BitVec 32 := Scalar.addi v683 v682
  let v690 : BitVec 32 := Scalar.select v688 v689 v683
  let c256_i32_554 : BitVec 32 := 256#32
  let v691 : BitVec 32 := Scalar.muli v690 c256_i32_554
  ![v18.toNat, v680.toNat, v691.toNat]
def k0_off112 (i : grid0.Coords) (k0_t1 : Fin k0_t1_loop.trips) (c0_i32_555 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12_i32 : BitVec 32 := 12#32
  let v29 : BitVec 32 := Scalar.muli v28 c12_i32
  let v692 : BitVec 32 := Scalar.addi v29 c0_i32_555
  let c2_i32_538 : BitVec 32 := 2#32
  let c0_i32_143 : BitVec 32 := 0#32
  let c1_i32_144 : BitVec 32 := 1#32
  let arg10 : BitVec 32 := Scf.iv c0_i32_143 c1_i32_144 k0_t1
  let v660 : BitVec 32 := Scalar.muli c2_i32_538 arg10
  let c2_i32_539 : BitVec 32 := 2#32
  let v661 : BitVec 32 := Scalar.addi v660 c2_i32_539
  let c128_i32 : BitVec 32 := 128#32
  let v662 : BitVec 32 := Scalar.remsi v661 c128_i32
  let c0_i32_541 : BitVec 32 := 0#32
  let v664 : BitVec 1 := Scalar.cmpi .sgt v662 c0_i32_541
  let v665 : BitVec 32 := Scalar.extui v664
  let c0_i32_542 : BitVec 32 := 0#32
  let v666 : BitVec 1 := Scalar.cmpi .slt v662 c0_i32_542
  let v667 : BitVec 32 := Scalar.extui v666
  let v668 : BitVec 32 := Scalar.subi v665 v667
  let c2_i32_540 : BitVec 32 := 2#32
  let c0_i32_543 : BitVec 32 := 0#32
  let v669 : BitVec 1 := Scalar.cmpi .sgt c2_i32_540 c0_i32_543
  let v670 : BitVec 32 := Scalar.extui v669
  let c0_i32_544 : BitVec 32 := 0#32
  let v671 : BitVec 1 := Scalar.cmpi .slt c2_i32_540 c0_i32_544
  let v672 : BitVec 32 := Scalar.extui v671
  let v673 : BitVec 32 := Scalar.subi v670 v672
  let v674 : BitVec 1 := Scalar.cmpi .ne v668 v673
  let v675 : BitVec 32 := Scalar.remsi v662 c2_i32_540
  let c0_i32_545 : BitVec 32 := 0#32
  let v676 : BitVec 1 := Scalar.cmpi .ne v675 c0_i32_545
  let v677 : BitVec 1 := Scalar.andi v674 v676
  let v663 : BitVec 32 := Scalar.divsi v662 c2_i32_540
  let c1_i32_546 : BitVec 32 := 1#32
  let v678 : BitVec 32 := Scalar.subi v663 c1_i32_546
  let v679 : BitVec 32 := Scalar.select v677 v678 v663
  let c8_i32_547 : BitVec 32 := 8#32
  let v680 : BitVec 32 := Scalar.muli v679 c8_i32_547
  let c2_i32_548 : BitVec 32 := 2#32
  let c0_i32_549 : BitVec 32 := 0#32
  let v681 : BitVec 1 := Scalar.cmpi .eq c2_i32_548 c0_i32_549
  let c1_i32_550 : BitVec 32 := 1#32
  let v682 : BitVec 32 := Scalar.select v681 c1_i32_550 c2_i32_548
  let v683 : BitVec 32 := Scalar.remsi v662 v682
  let c0_i32_552 : BitVec 32 := 0#32
  let v685 : BitVec 1 := Scalar.cmpi .slt v683 c0_i32_552
  let c0_i32_553 : BitVec 32 := 0#32
  let v686 : BitVec 1 := Scalar.cmpi .slt v682 c0_i32_553
  let v687 : BitVec 1 := Scalar.xori v685 v686
  let c0_i32_551 : BitVec 32 := 0#32
  let v684 : BitVec 1 := Scalar.cmpi .ne v683 c0_i32_551
  let v688 : BitVec 1 := Scalar.andi v687 v684
  let v689 : BitVec 32 := Scalar.addi v683 v682
  let v690 : BitVec 32 := Scalar.select v688 v689 v683
  let c256_i32_554 : BitVec 32 := 256#32
  let v691 : BitVec 32 := Scalar.muli v690 c256_i32_554
  ![v18.toNat, v692.toNat, v680.toNat, v691.toNat]
@[reducible] def k0_t3_loop : Scf.Loop 32 :=
  let c0_i32_748 : BitVec 32 := 0#32
  let c16_i32_749 : BitVec 32 := 16#32
  let v953 : BitVec 32 := Scalar.addi c0_i32_748 c16_i32_749
  let c1_i32_750 : BitVec 32 := 1#32
  ⟨c0_i32_748, v953, c1_i32_750⟩
def k0_mult2 (k0_t3 : Fin k0_t3_loop.trips) : BitVec 32 :=
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  v955
def k0_off113 (k0_t3 : Fin k0_t3_loop.trips) : Fin 3 → Nat :=
  let c1_i32_753 : BitVec 32 := 1#32
  let v957 : Index := Scalar.indexCast c1_i32_753
  let c0_i32_754 : BitVec 32 := 0#32
  let v958 : Index := Scalar.indexCast c0_i32_754
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v959 : Index := Scalar.indexCast v956
  ![1, 0, v959.toNat]
def k0_off114 (k0_t3 : Fin k0_t3_loop.trips) : Fin 4 → Nat :=
  let c1_i32_758 : BitVec 32 := 1#32
  let v968 : Index := Scalar.indexCast c1_i32_758
  let c0_i32_759 : BitVec 32 := 0#32
  let v969 : Index := Scalar.indexCast c0_i32_759
  let c0_i32_760 : BitVec 32 := 0#32
  let v970 : Index := Scalar.indexCast c0_i32_760
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v971 : Index := Scalar.indexCast v956
  ![1, 0, 0, v971.toNat]
def k0_off115 (k0_t3 : Fin k0_t3_loop.trips) : Fin 4 → Nat :=
  let c1_i32_761 : BitVec 32 := 1#32
  let v977 : Index := Scalar.indexCast c1_i32_761
  let c1_i32_762 : BitVec 32 := 1#32
  let v978 : Index := Scalar.indexCast c1_i32_762
  let c0_i32_763 : BitVec 32 := 0#32
  let v979 : Index := Scalar.indexCast c0_i32_763
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v980 : Index := Scalar.indexCast v956
  ![1, 1, 0, v980.toNat]
def k0_off116 (k0_t3 : Fin k0_t3_loop.trips) : Fin 4 → Nat :=
  let c1_i32_764 : BitVec 32 := 1#32
  let v986 : Index := Scalar.indexCast c1_i32_764
  let c2_i32_765 : BitVec 32 := 2#32
  let v987 : Index := Scalar.indexCast c2_i32_765
  let c0_i32_766 : BitVec 32 := 0#32
  let v988 : Index := Scalar.indexCast c0_i32_766
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v989 : Index := Scalar.indexCast v956
  ![1, 2, 0, v989.toNat]
def k0_off117 (k0_t3 : Fin k0_t3_loop.trips) : Fin 4 → Nat :=
  let c1_i32_767 : BitVec 32 := 1#32
  let v995 : Index := Scalar.indexCast c1_i32_767
  let c3_i32_768 : BitVec 32 := 3#32
  let v996 : Index := Scalar.indexCast c3_i32_768
  let c0_i32_769 : BitVec 32 := 0#32
  let v997 : Index := Scalar.indexCast c0_i32_769
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v998 : Index := Scalar.indexCast v956
  ![1, 3, 0, v998.toNat]
def k0_off118 (k0_t3 : Fin k0_t3_loop.trips) : Fin 4 → Nat :=
  let c1_i32_770 : BitVec 32 := 1#32
  let v1004 : Index := Scalar.indexCast c1_i32_770
  let c4_i32_771 : BitVec 32 := 4#32
  let v1005 : Index := Scalar.indexCast c4_i32_771
  let c0_i32_772 : BitVec 32 := 0#32
  let v1006 : Index := Scalar.indexCast c0_i32_772
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1007 : Index := Scalar.indexCast v956
  ![1, 4, 0, v1007.toNat]
def k0_off119 (k0_t3 : Fin k0_t3_loop.trips) : Fin 4 → Nat :=
  let c1_i32_773 : BitVec 32 := 1#32
  let v1013 : Index := Scalar.indexCast c1_i32_773
  let c5_i32_774 : BitVec 32 := 5#32
  let v1014 : Index := Scalar.indexCast c5_i32_774
  let c0_i32_775 : BitVec 32 := 0#32
  let v1015 : Index := Scalar.indexCast c0_i32_775
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1016 : Index := Scalar.indexCast v956
  ![1, 5, 0, v1016.toNat]
def k0_off120 (k0_t3 : Fin k0_t3_loop.trips) : Fin 4 → Nat :=
  let c1_i32_776 : BitVec 32 := 1#32
  let v1022 : Index := Scalar.indexCast c1_i32_776
  let c6_i32_777 : BitVec 32 := 6#32
  let v1023 : Index := Scalar.indexCast c6_i32_777
  let c0_i32_778 : BitVec 32 := 0#32
  let v1024 : Index := Scalar.indexCast c0_i32_778
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1025 : Index := Scalar.indexCast v956
  ![1, 6, 0, v1025.toNat]
def k0_off121 (k0_t3 : Fin k0_t3_loop.trips) : Fin 4 → Nat :=
  let c1_i32_779 : BitVec 32 := 1#32
  let v1031 : Index := Scalar.indexCast c1_i32_779
  let c7_i32_780 : BitVec 32 := 7#32
  let v1032 : Index := Scalar.indexCast c7_i32_780
  let c0_i32_781 : BitVec 32 := 0#32
  let v1033 : Index := Scalar.indexCast c0_i32_781
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1034 : Index := Scalar.indexCast v956
  ![1, 7, 0, v1034.toNat]
def k0_off122 (k0_t3 : Fin k0_t3_loop.trips) : Fin 4 → Nat :=
  let c1_i32_782 : BitVec 32 := 1#32
  let v1040 : Index := Scalar.indexCast c1_i32_782
  let c8_i32_783 : BitVec 32 := 8#32
  let v1041 : Index := Scalar.indexCast c8_i32_783
  let c0_i32_784 : BitVec 32 := 0#32
  let v1042 : Index := Scalar.indexCast c0_i32_784
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1043 : Index := Scalar.indexCast v956
  ![1, 8, 0, v1043.toNat]
def k0_off123 (k0_t3 : Fin k0_t3_loop.trips) : Fin 4 → Nat :=
  let c1_i32_785 : BitVec 32 := 1#32
  let v1049 : Index := Scalar.indexCast c1_i32_785
  let c9_i32_786 : BitVec 32 := 9#32
  let v1050 : Index := Scalar.indexCast c9_i32_786
  let c0_i32_787 : BitVec 32 := 0#32
  let v1051 : Index := Scalar.indexCast c0_i32_787
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1052 : Index := Scalar.indexCast v956
  ![1, 9, 0, v1052.toNat]
def k0_off124 (k0_t3 : Fin k0_t3_loop.trips) : Fin 4 → Nat :=
  let c1_i32_788 : BitVec 32 := 1#32
  let v1058 : Index := Scalar.indexCast c1_i32_788
  let c10_i32_789 : BitVec 32 := 10#32
  let v1059 : Index := Scalar.indexCast c10_i32_789
  let c0_i32_790 : BitVec 32 := 0#32
  let v1060 : Index := Scalar.indexCast c0_i32_790
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1061 : Index := Scalar.indexCast v956
  ![1, 10, 0, v1061.toNat]
def k0_off125 (k0_t3 : Fin k0_t3_loop.trips) : Fin 4 → Nat :=
  let c1_i32_791 : BitVec 32 := 1#32
  let v1067 : Index := Scalar.indexCast c1_i32_791
  let c11_i32_792 : BitVec 32 := 11#32
  let v1068 : Index := Scalar.indexCast c11_i32_792
  let c0_i32_793 : BitVec 32 := 0#32
  let v1069 : Index := Scalar.indexCast c0_i32_793
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1070 : Index := Scalar.indexCast v956
  ![1, 11, 0, v1070.toNat]
def k0_off126 (k0_t3 : Fin k0_t3_loop.trips) : Fin 3 → Nat :=
  let c1_i32_794 : BitVec 32 := 1#32
  let v1076 : Index := Scalar.indexCast c1_i32_794
  let c1_i32_795 : BitVec 32 := 1#32
  let v1077 : Index := Scalar.indexCast c1_i32_795
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1078 : Index := Scalar.indexCast v956
  ![1, 1, v1078.toNat]
def k0_off127 (k0_t3 : Fin k0_t3_loop.trips) : Fin 4 → Nat :=
  let c1_i32_799 : BitVec 32 := 1#32
  let v1087 : Index := Scalar.indexCast c1_i32_799
  let c0_i32_800 : BitVec 32 := 0#32
  let v1088 : Index := Scalar.indexCast c0_i32_800
  let c1_i32_801 : BitVec 32 := 1#32
  let v1089 : Index := Scalar.indexCast c1_i32_801
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1090 : Index := Scalar.indexCast v956
  ![1, 0, 1, v1090.toNat]
def k0_off128 (k0_t3 : Fin k0_t3_loop.trips) : Fin 4 → Nat :=
  let c1_i32_802 : BitVec 32 := 1#32
  let v1096 : Index := Scalar.indexCast c1_i32_802
  let c1_i32_803 : BitVec 32 := 1#32
  let v1097 : Index := Scalar.indexCast c1_i32_803
  let c1_i32_804 : BitVec 32 := 1#32
  let v1098 : Index := Scalar.indexCast c1_i32_804
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1099 : Index := Scalar.indexCast v956
  ![1, 1, 1, v1099.toNat]
def k0_off129 (k0_t3 : Fin k0_t3_loop.trips) : Fin 4 → Nat :=
  let c1_i32_805 : BitVec 32 := 1#32
  let v1105 : Index := Scalar.indexCast c1_i32_805
  let c2_i32_806 : BitVec 32 := 2#32
  let v1106 : Index := Scalar.indexCast c2_i32_806
  let c1_i32_807 : BitVec 32 := 1#32
  let v1107 : Index := Scalar.indexCast c1_i32_807
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1108 : Index := Scalar.indexCast v956
  ![1, 2, 1, v1108.toNat]
def k0_off130 (k0_t3 : Fin k0_t3_loop.trips) : Fin 4 → Nat :=
  let c1_i32_808 : BitVec 32 := 1#32
  let v1114 : Index := Scalar.indexCast c1_i32_808
  let c3_i32_809 : BitVec 32 := 3#32
  let v1115 : Index := Scalar.indexCast c3_i32_809
  let c1_i32_810 : BitVec 32 := 1#32
  let v1116 : Index := Scalar.indexCast c1_i32_810
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1117 : Index := Scalar.indexCast v956
  ![1, 3, 1, v1117.toNat]
def k0_off131 (k0_t3 : Fin k0_t3_loop.trips) : Fin 4 → Nat :=
  let c1_i32_811 : BitVec 32 := 1#32
  let v1123 : Index := Scalar.indexCast c1_i32_811
  let c4_i32_812 : BitVec 32 := 4#32
  let v1124 : Index := Scalar.indexCast c4_i32_812
  let c1_i32_813 : BitVec 32 := 1#32
  let v1125 : Index := Scalar.indexCast c1_i32_813
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1126 : Index := Scalar.indexCast v956
  ![1, 4, 1, v1126.toNat]
def k0_off132 (k0_t3 : Fin k0_t3_loop.trips) : Fin 4 → Nat :=
  let c1_i32_814 : BitVec 32 := 1#32
  let v1132 : Index := Scalar.indexCast c1_i32_814
  let c5_i32_815 : BitVec 32 := 5#32
  let v1133 : Index := Scalar.indexCast c5_i32_815
  let c1_i32_816 : BitVec 32 := 1#32
  let v1134 : Index := Scalar.indexCast c1_i32_816
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1135 : Index := Scalar.indexCast v956
  ![1, 5, 1, v1135.toNat]
def k0_off133 (k0_t3 : Fin k0_t3_loop.trips) : Fin 4 → Nat :=
  let c1_i32_817 : BitVec 32 := 1#32
  let v1141 : Index := Scalar.indexCast c1_i32_817
  let c6_i32_818 : BitVec 32 := 6#32
  let v1142 : Index := Scalar.indexCast c6_i32_818
  let c1_i32_819 : BitVec 32 := 1#32
  let v1143 : Index := Scalar.indexCast c1_i32_819
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1144 : Index := Scalar.indexCast v956
  ![1, 6, 1, v1144.toNat]
def k0_off134 (k0_t3 : Fin k0_t3_loop.trips) : Fin 4 → Nat :=
  let c1_i32_820 : BitVec 32 := 1#32
  let v1150 : Index := Scalar.indexCast c1_i32_820
  let c7_i32_821 : BitVec 32 := 7#32
  let v1151 : Index := Scalar.indexCast c7_i32_821
  let c1_i32_822 : BitVec 32 := 1#32
  let v1152 : Index := Scalar.indexCast c1_i32_822
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1153 : Index := Scalar.indexCast v956
  ![1, 7, 1, v1153.toNat]
def k0_off135 (k0_t3 : Fin k0_t3_loop.trips) : Fin 4 → Nat :=
  let c1_i32_823 : BitVec 32 := 1#32
  let v1159 : Index := Scalar.indexCast c1_i32_823
  let c8_i32_824 : BitVec 32 := 8#32
  let v1160 : Index := Scalar.indexCast c8_i32_824
  let c1_i32_825 : BitVec 32 := 1#32
  let v1161 : Index := Scalar.indexCast c1_i32_825
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1162 : Index := Scalar.indexCast v956
  ![1, 8, 1, v1162.toNat]
def k0_off136 (k0_t3 : Fin k0_t3_loop.trips) : Fin 4 → Nat :=
  let c1_i32_826 : BitVec 32 := 1#32
  let v1168 : Index := Scalar.indexCast c1_i32_826
  let c9_i32_827 : BitVec 32 := 9#32
  let v1169 : Index := Scalar.indexCast c9_i32_827
  let c1_i32_828 : BitVec 32 := 1#32
  let v1170 : Index := Scalar.indexCast c1_i32_828
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1171 : Index := Scalar.indexCast v956
  ![1, 9, 1, v1171.toNat]
def k0_off137 (k0_t3 : Fin k0_t3_loop.trips) : Fin 4 → Nat :=
  let c1_i32_829 : BitVec 32 := 1#32
  let v1177 : Index := Scalar.indexCast c1_i32_829
  let c10_i32_830 : BitVec 32 := 10#32
  let v1178 : Index := Scalar.indexCast c10_i32_830
  let c1_i32_831 : BitVec 32 := 1#32
  let v1179 : Index := Scalar.indexCast c1_i32_831
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1180 : Index := Scalar.indexCast v956
  ![1, 10, 1, v1180.toNat]
def k0_off138 (k0_t3 : Fin k0_t3_loop.trips) : Fin 4 → Nat :=
  let c1_i32_832 : BitVec 32 := 1#32
  let v1186 : Index := Scalar.indexCast c1_i32_832
  let c11_i32_833 : BitVec 32 := 11#32
  let v1187 : Index := Scalar.indexCast c11_i32_833
  let c1_i32_834 : BitVec 32 := 1#32
  let v1188 : Index := Scalar.indexCast c1_i32_834
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1189 : Index := Scalar.indexCast v956
  ![1, 11, 1, v1189.toNat]
def k0_off139 (k0_t3 : Fin k0_t3_loop.trips) : Fin 3 → Nat :=
  let c1_i32_835 : BitVec 32 := 1#32
  let v1195 : Index := Scalar.indexCast c1_i32_835
  let c2_i32_836 : BitVec 32 := 2#32
  let v1196 : Index := Scalar.indexCast c2_i32_836
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1197 : Index := Scalar.indexCast v956
  ![1, 2, v1197.toNat]
def k0_off140 (k0_t3 : Fin k0_t3_loop.trips) : Fin 4 → Nat :=
  let c1_i32_840 : BitVec 32 := 1#32
  let v1206 : Index := Scalar.indexCast c1_i32_840
  let c0_i32_841 : BitVec 32 := 0#32
  let v1207 : Index := Scalar.indexCast c0_i32_841
  let c2_i32_842 : BitVec 32 := 2#32
  let v1208 : Index := Scalar.indexCast c2_i32_842
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1209 : Index := Scalar.indexCast v956
  ![1, 0, 2, v1209.toNat]
def k0_off141 (k0_t3 : Fin k0_t3_loop.trips) : Fin 4 → Nat :=
  let c1_i32_843 : BitVec 32 := 1#32
  let v1215 : Index := Scalar.indexCast c1_i32_843
  let c1_i32_844 : BitVec 32 := 1#32
  let v1216 : Index := Scalar.indexCast c1_i32_844
  let c2_i32_845 : BitVec 32 := 2#32
  let v1217 : Index := Scalar.indexCast c2_i32_845
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1218 : Index := Scalar.indexCast v956
  ![1, 1, 2, v1218.toNat]
def k0_off142 (k0_t3 : Fin k0_t3_loop.trips) : Fin 4 → Nat :=
  let c1_i32_846 : BitVec 32 := 1#32
  let v1224 : Index := Scalar.indexCast c1_i32_846
  let c2_i32_847 : BitVec 32 := 2#32
  let v1225 : Index := Scalar.indexCast c2_i32_847
  let c2_i32_848 : BitVec 32 := 2#32
  let v1226 : Index := Scalar.indexCast c2_i32_848
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1227 : Index := Scalar.indexCast v956
  ![1, 2, 2, v1227.toNat]
def k0_off143 (k0_t3 : Fin k0_t3_loop.trips) : Fin 4 → Nat :=
  let c1_i32_849 : BitVec 32 := 1#32
  let v1233 : Index := Scalar.indexCast c1_i32_849
  let c3_i32_850 : BitVec 32 := 3#32
  let v1234 : Index := Scalar.indexCast c3_i32_850
  let c2_i32_851 : BitVec 32 := 2#32
  let v1235 : Index := Scalar.indexCast c2_i32_851
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1236 : Index := Scalar.indexCast v956
  ![1, 3, 2, v1236.toNat]
def k0_off144 (k0_t3 : Fin k0_t3_loop.trips) : Fin 4 → Nat :=
  let c1_i32_852 : BitVec 32 := 1#32
  let v1242 : Index := Scalar.indexCast c1_i32_852
  let c4_i32_853 : BitVec 32 := 4#32
  let v1243 : Index := Scalar.indexCast c4_i32_853
  let c2_i32_854 : BitVec 32 := 2#32
  let v1244 : Index := Scalar.indexCast c2_i32_854
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1245 : Index := Scalar.indexCast v956
  ![1, 4, 2, v1245.toNat]
def k0_off145 (k0_t3 : Fin k0_t3_loop.trips) : Fin 4 → Nat :=
  let c1_i32_855 : BitVec 32 := 1#32
  let v1251 : Index := Scalar.indexCast c1_i32_855
  let c5_i32_856 : BitVec 32 := 5#32
  let v1252 : Index := Scalar.indexCast c5_i32_856
  let c2_i32_857 : BitVec 32 := 2#32
  let v1253 : Index := Scalar.indexCast c2_i32_857
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1254 : Index := Scalar.indexCast v956
  ![1, 5, 2, v1254.toNat]
def k0_off146 (k0_t3 : Fin k0_t3_loop.trips) : Fin 4 → Nat :=
  let c1_i32_858 : BitVec 32 := 1#32
  let v1260 : Index := Scalar.indexCast c1_i32_858
  let c6_i32_859 : BitVec 32 := 6#32
  let v1261 : Index := Scalar.indexCast c6_i32_859
  let c2_i32_860 : BitVec 32 := 2#32
  let v1262 : Index := Scalar.indexCast c2_i32_860
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1263 : Index := Scalar.indexCast v956
  ![1, 6, 2, v1263.toNat]
def k0_off147 (k0_t3 : Fin k0_t3_loop.trips) : Fin 4 → Nat :=
  let c1_i32_861 : BitVec 32 := 1#32
  let v1269 : Index := Scalar.indexCast c1_i32_861
  let c7_i32_862 : BitVec 32 := 7#32
  let v1270 : Index := Scalar.indexCast c7_i32_862
  let c2_i32_863 : BitVec 32 := 2#32
  let v1271 : Index := Scalar.indexCast c2_i32_863
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1272 : Index := Scalar.indexCast v956
  ![1, 7, 2, v1272.toNat]
def k0_off148 (k0_t3 : Fin k0_t3_loop.trips) : Fin 4 → Nat :=
  let c1_i32_864 : BitVec 32 := 1#32
  let v1278 : Index := Scalar.indexCast c1_i32_864
  let c8_i32_865 : BitVec 32 := 8#32
  let v1279 : Index := Scalar.indexCast c8_i32_865
  let c2_i32_866 : BitVec 32 := 2#32
  let v1280 : Index := Scalar.indexCast c2_i32_866
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1281 : Index := Scalar.indexCast v956
  ![1, 8, 2, v1281.toNat]
def k0_off149 (k0_t3 : Fin k0_t3_loop.trips) : Fin 4 → Nat :=
  let c1_i32_867 : BitVec 32 := 1#32
  let v1287 : Index := Scalar.indexCast c1_i32_867
  let c9_i32_868 : BitVec 32 := 9#32
  let v1288 : Index := Scalar.indexCast c9_i32_868
  let c2_i32_869 : BitVec 32 := 2#32
  let v1289 : Index := Scalar.indexCast c2_i32_869
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1290 : Index := Scalar.indexCast v956
  ![1, 9, 2, v1290.toNat]
def k0_off150 (k0_t3 : Fin k0_t3_loop.trips) : Fin 4 → Nat :=
  let c1_i32_870 : BitVec 32 := 1#32
  let v1296 : Index := Scalar.indexCast c1_i32_870
  let c10_i32_871 : BitVec 32 := 10#32
  let v1297 : Index := Scalar.indexCast c10_i32_871
  let c2_i32_872 : BitVec 32 := 2#32
  let v1298 : Index := Scalar.indexCast c2_i32_872
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1299 : Index := Scalar.indexCast v956
  ![1, 10, 2, v1299.toNat]
def k0_off151 (k0_t3 : Fin k0_t3_loop.trips) : Fin 4 → Nat :=
  let c1_i32_873 : BitVec 32 := 1#32
  let v1305 : Index := Scalar.indexCast c1_i32_873
  let c11_i32_874 : BitVec 32 := 11#32
  let v1306 : Index := Scalar.indexCast c11_i32_874
  let c2_i32_875 : BitVec 32 := 2#32
  let v1307 : Index := Scalar.indexCast c2_i32_875
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1308 : Index := Scalar.indexCast v956
  ![1, 11, 2, v1308.toNat]
def k0_off152 (k0_t3 : Fin k0_t3_loop.trips) : Fin 3 → Nat :=
  let c1_i32_876 : BitVec 32 := 1#32
  let v1314 : Index := Scalar.indexCast c1_i32_876
  let c3_i32_877 : BitVec 32 := 3#32
  let v1315 : Index := Scalar.indexCast c3_i32_877
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1316 : Index := Scalar.indexCast v956
  ![1, 3, v1316.toNat]
def k0_off153 (k0_t3 : Fin k0_t3_loop.trips) : Fin 4 → Nat :=
  let c1_i32_881 : BitVec 32 := 1#32
  let v1325 : Index := Scalar.indexCast c1_i32_881
  let c0_i32_882 : BitVec 32 := 0#32
  let v1326 : Index := Scalar.indexCast c0_i32_882
  let c3_i32_883 : BitVec 32 := 3#32
  let v1327 : Index := Scalar.indexCast c3_i32_883
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1328 : Index := Scalar.indexCast v956
  ![1, 0, 3, v1328.toNat]
def k0_off154 (k0_t3 : Fin k0_t3_loop.trips) : Fin 4 → Nat :=
  let c1_i32_884 : BitVec 32 := 1#32
  let v1334 : Index := Scalar.indexCast c1_i32_884
  let c1_i32_885 : BitVec 32 := 1#32
  let v1335 : Index := Scalar.indexCast c1_i32_885
  let c3_i32_886 : BitVec 32 := 3#32
  let v1336 : Index := Scalar.indexCast c3_i32_886
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1337 : Index := Scalar.indexCast v956
  ![1, 1, 3, v1337.toNat]
def k0_off155 (k0_t3 : Fin k0_t3_loop.trips) : Fin 4 → Nat :=
  let c1_i32_887 : BitVec 32 := 1#32
  let v1343 : Index := Scalar.indexCast c1_i32_887
  let c2_i32_888 : BitVec 32 := 2#32
  let v1344 : Index := Scalar.indexCast c2_i32_888
  let c3_i32_889 : BitVec 32 := 3#32
  let v1345 : Index := Scalar.indexCast c3_i32_889
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1346 : Index := Scalar.indexCast v956
  ![1, 2, 3, v1346.toNat]
def k0_off156 (k0_t3 : Fin k0_t3_loop.trips) : Fin 4 → Nat :=
  let c1_i32_890 : BitVec 32 := 1#32
  let v1352 : Index := Scalar.indexCast c1_i32_890
  let c3_i32_891 : BitVec 32 := 3#32
  let v1353 : Index := Scalar.indexCast c3_i32_891
  let c3_i32_892 : BitVec 32 := 3#32
  let v1354 : Index := Scalar.indexCast c3_i32_892
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1355 : Index := Scalar.indexCast v956
  ![1, 3, 3, v1355.toNat]
def k0_off157 (k0_t3 : Fin k0_t3_loop.trips) : Fin 4 → Nat :=
  let c1_i32_893 : BitVec 32 := 1#32
  let v1361 : Index := Scalar.indexCast c1_i32_893
  let c4_i32_894 : BitVec 32 := 4#32
  let v1362 : Index := Scalar.indexCast c4_i32_894
  let c3_i32_895 : BitVec 32 := 3#32
  let v1363 : Index := Scalar.indexCast c3_i32_895
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1364 : Index := Scalar.indexCast v956
  ![1, 4, 3, v1364.toNat]
def k0_off158 (k0_t3 : Fin k0_t3_loop.trips) : Fin 4 → Nat :=
  let c1_i32_896 : BitVec 32 := 1#32
  let v1370 : Index := Scalar.indexCast c1_i32_896
  let c5_i32_897 : BitVec 32 := 5#32
  let v1371 : Index := Scalar.indexCast c5_i32_897
  let c3_i32_898 : BitVec 32 := 3#32
  let v1372 : Index := Scalar.indexCast c3_i32_898
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1373 : Index := Scalar.indexCast v956
  ![1, 5, 3, v1373.toNat]
def k0_off159 (k0_t3 : Fin k0_t3_loop.trips) : Fin 4 → Nat :=
  let c1_i32_899 : BitVec 32 := 1#32
  let v1379 : Index := Scalar.indexCast c1_i32_899
  let c6_i32_900 : BitVec 32 := 6#32
  let v1380 : Index := Scalar.indexCast c6_i32_900
  let c3_i32_901 : BitVec 32 := 3#32
  let v1381 : Index := Scalar.indexCast c3_i32_901
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1382 : Index := Scalar.indexCast v956
  ![1, 6, 3, v1382.toNat]
def k0_off160 (k0_t3 : Fin k0_t3_loop.trips) : Fin 4 → Nat :=
  let c1_i32_902 : BitVec 32 := 1#32
  let v1388 : Index := Scalar.indexCast c1_i32_902
  let c7_i32_903 : BitVec 32 := 7#32
  let v1389 : Index := Scalar.indexCast c7_i32_903
  let c3_i32_904 : BitVec 32 := 3#32
  let v1390 : Index := Scalar.indexCast c3_i32_904
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1391 : Index := Scalar.indexCast v956
  ![1, 7, 3, v1391.toNat]
def k0_off161 (k0_t3 : Fin k0_t3_loop.trips) : Fin 4 → Nat :=
  let c1_i32_905 : BitVec 32 := 1#32
  let v1397 : Index := Scalar.indexCast c1_i32_905
  let c8_i32_906 : BitVec 32 := 8#32
  let v1398 : Index := Scalar.indexCast c8_i32_906
  let c3_i32_907 : BitVec 32 := 3#32
  let v1399 : Index := Scalar.indexCast c3_i32_907
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1400 : Index := Scalar.indexCast v956
  ![1, 8, 3, v1400.toNat]
def k0_off162 (k0_t3 : Fin k0_t3_loop.trips) : Fin 4 → Nat :=
  let c1_i32_908 : BitVec 32 := 1#32
  let v1406 : Index := Scalar.indexCast c1_i32_908
  let c9_i32_909 : BitVec 32 := 9#32
  let v1407 : Index := Scalar.indexCast c9_i32_909
  let c3_i32_910 : BitVec 32 := 3#32
  let v1408 : Index := Scalar.indexCast c3_i32_910
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1409 : Index := Scalar.indexCast v956
  ![1, 9, 3, v1409.toNat]
def k0_off163 (k0_t3 : Fin k0_t3_loop.trips) : Fin 4 → Nat :=
  let c1_i32_911 : BitVec 32 := 1#32
  let v1415 : Index := Scalar.indexCast c1_i32_911
  let c10_i32_912 : BitVec 32 := 10#32
  let v1416 : Index := Scalar.indexCast c10_i32_912
  let c3_i32_913 : BitVec 32 := 3#32
  let v1417 : Index := Scalar.indexCast c3_i32_913
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1418 : Index := Scalar.indexCast v956
  ![1, 10, 3, v1418.toNat]
def k0_off164 (k0_t3 : Fin k0_t3_loop.trips) : Fin 4 → Nat :=
  let c1_i32_914 : BitVec 32 := 1#32
  let v1424 : Index := Scalar.indexCast c1_i32_914
  let c11_i32_915 : BitVec 32 := 11#32
  let v1425 : Index := Scalar.indexCast c11_i32_915
  let c3_i32_916 : BitVec 32 := 3#32
  let v1426 : Index := Scalar.indexCast c3_i32_916
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1427 : Index := Scalar.indexCast v956
  ![1, 11, 3, v1427.toNat]
def k0_off165 (k0_t3 : Fin k0_t3_loop.trips) : Fin 3 → Nat :=
  let c1_i32_917 : BitVec 32 := 1#32
  let v1433 : Index := Scalar.indexCast c1_i32_917
  let c4_i32_918 : BitVec 32 := 4#32
  let v1434 : Index := Scalar.indexCast c4_i32_918
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1435 : Index := Scalar.indexCast v956
  ![1, 4, v1435.toNat]
def k0_off166 (k0_t3 : Fin k0_t3_loop.trips) : Fin 4 → Nat :=
  let c1_i32_922 : BitVec 32 := 1#32
  let v1444 : Index := Scalar.indexCast c1_i32_922
  let c0_i32_923 : BitVec 32 := 0#32
  let v1445 : Index := Scalar.indexCast c0_i32_923
  let c4_i32_924 : BitVec 32 := 4#32
  let v1446 : Index := Scalar.indexCast c4_i32_924
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1447 : Index := Scalar.indexCast v956
  ![1, 0, 4, v1447.toNat]
def k0_off167 (k0_t3 : Fin k0_t3_loop.trips) : Fin 4 → Nat :=
  let c1_i32_925 : BitVec 32 := 1#32
  let v1453 : Index := Scalar.indexCast c1_i32_925
  let c1_i32_926 : BitVec 32 := 1#32
  let v1454 : Index := Scalar.indexCast c1_i32_926
  let c4_i32_927 : BitVec 32 := 4#32
  let v1455 : Index := Scalar.indexCast c4_i32_927
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1456 : Index := Scalar.indexCast v956
  ![1, 1, 4, v1456.toNat]
def k0_off168 (k0_t3 : Fin k0_t3_loop.trips) : Fin 4 → Nat :=
  let c1_i32_928 : BitVec 32 := 1#32
  let v1462 : Index := Scalar.indexCast c1_i32_928
  let c2_i32_929 : BitVec 32 := 2#32
  let v1463 : Index := Scalar.indexCast c2_i32_929
  let c4_i32_930 : BitVec 32 := 4#32
  let v1464 : Index := Scalar.indexCast c4_i32_930
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1465 : Index := Scalar.indexCast v956
  ![1, 2, 4, v1465.toNat]
def k0_off169 (k0_t3 : Fin k0_t3_loop.trips) : Fin 4 → Nat :=
  let c1_i32_931 : BitVec 32 := 1#32
  let v1471 : Index := Scalar.indexCast c1_i32_931
  let c3_i32_932 : BitVec 32 := 3#32
  let v1472 : Index := Scalar.indexCast c3_i32_932
  let c4_i32_933 : BitVec 32 := 4#32
  let v1473 : Index := Scalar.indexCast c4_i32_933
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1474 : Index := Scalar.indexCast v956
  ![1, 3, 4, v1474.toNat]
def k0_off170 (k0_t3 : Fin k0_t3_loop.trips) : Fin 4 → Nat :=
  let c1_i32_934 : BitVec 32 := 1#32
  let v1480 : Index := Scalar.indexCast c1_i32_934
  let c4_i32_935 : BitVec 32 := 4#32
  let v1481 : Index := Scalar.indexCast c4_i32_935
  let c4_i32_936 : BitVec 32 := 4#32
  let v1482 : Index := Scalar.indexCast c4_i32_936
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1483 : Index := Scalar.indexCast v956
  ![1, 4, 4, v1483.toNat]
def k0_off171 (k0_t3 : Fin k0_t3_loop.trips) : Fin 4 → Nat :=
  let c1_i32_937 : BitVec 32 := 1#32
  let v1489 : Index := Scalar.indexCast c1_i32_937
  let c5_i32_938 : BitVec 32 := 5#32
  let v1490 : Index := Scalar.indexCast c5_i32_938
  let c4_i32_939 : BitVec 32 := 4#32
  let v1491 : Index := Scalar.indexCast c4_i32_939
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1492 : Index := Scalar.indexCast v956
  ![1, 5, 4, v1492.toNat]
def k0_off172 (k0_t3 : Fin k0_t3_loop.trips) : Fin 4 → Nat :=
  let c1_i32_940 : BitVec 32 := 1#32
  let v1498 : Index := Scalar.indexCast c1_i32_940
  let c6_i32_941 : BitVec 32 := 6#32
  let v1499 : Index := Scalar.indexCast c6_i32_941
  let c4_i32_942 : BitVec 32 := 4#32
  let v1500 : Index := Scalar.indexCast c4_i32_942
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1501 : Index := Scalar.indexCast v956
  ![1, 6, 4, v1501.toNat]
def k0_off173 (k0_t3 : Fin k0_t3_loop.trips) : Fin 4 → Nat :=
  let c1_i32_943 : BitVec 32 := 1#32
  let v1507 : Index := Scalar.indexCast c1_i32_943
  let c7_i32_944 : BitVec 32 := 7#32
  let v1508 : Index := Scalar.indexCast c7_i32_944
  let c4_i32_945 : BitVec 32 := 4#32
  let v1509 : Index := Scalar.indexCast c4_i32_945
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1510 : Index := Scalar.indexCast v956
  ![1, 7, 4, v1510.toNat]
def k0_off174 (k0_t3 : Fin k0_t3_loop.trips) : Fin 4 → Nat :=
  let c1_i32_946 : BitVec 32 := 1#32
  let v1516 : Index := Scalar.indexCast c1_i32_946
  let c8_i32_947 : BitVec 32 := 8#32
  let v1517 : Index := Scalar.indexCast c8_i32_947
  let c4_i32_948 : BitVec 32 := 4#32
  let v1518 : Index := Scalar.indexCast c4_i32_948
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1519 : Index := Scalar.indexCast v956
  ![1, 8, 4, v1519.toNat]
def k0_off175 (k0_t3 : Fin k0_t3_loop.trips) : Fin 4 → Nat :=
  let c1_i32_949 : BitVec 32 := 1#32
  let v1525 : Index := Scalar.indexCast c1_i32_949
  let c9_i32_950 : BitVec 32 := 9#32
  let v1526 : Index := Scalar.indexCast c9_i32_950
  let c4_i32_951 : BitVec 32 := 4#32
  let v1527 : Index := Scalar.indexCast c4_i32_951
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1528 : Index := Scalar.indexCast v956
  ![1, 9, 4, v1528.toNat]
def k0_off176 (k0_t3 : Fin k0_t3_loop.trips) : Fin 4 → Nat :=
  let c1_i32_952 : BitVec 32 := 1#32
  let v1534 : Index := Scalar.indexCast c1_i32_952
  let c10_i32_953 : BitVec 32 := 10#32
  let v1535 : Index := Scalar.indexCast c10_i32_953
  let c4_i32_954 : BitVec 32 := 4#32
  let v1536 : Index := Scalar.indexCast c4_i32_954
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1537 : Index := Scalar.indexCast v956
  ![1, 10, 4, v1537.toNat]
def k0_off177 (k0_t3 : Fin k0_t3_loop.trips) : Fin 4 → Nat :=
  let c1_i32_955 : BitVec 32 := 1#32
  let v1543 : Index := Scalar.indexCast c1_i32_955
  let c11_i32_956 : BitVec 32 := 11#32
  let v1544 : Index := Scalar.indexCast c11_i32_956
  let c4_i32_957 : BitVec 32 := 4#32
  let v1545 : Index := Scalar.indexCast c4_i32_957
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1546 : Index := Scalar.indexCast v956
  ![1, 11, 4, v1546.toNat]
def k0_off178 (k0_t3 : Fin k0_t3_loop.trips) : Fin 3 → Nat :=
  let c1_i32_958 : BitVec 32 := 1#32
  let v1552 : Index := Scalar.indexCast c1_i32_958
  let c5_i32_959 : BitVec 32 := 5#32
  let v1553 : Index := Scalar.indexCast c5_i32_959
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1554 : Index := Scalar.indexCast v956
  ![1, 5, v1554.toNat]
def k0_off179 (k0_t3 : Fin k0_t3_loop.trips) : Fin 4 → Nat :=
  let c1_i32_963 : BitVec 32 := 1#32
  let v1563 : Index := Scalar.indexCast c1_i32_963
  let c0_i32_964 : BitVec 32 := 0#32
  let v1564 : Index := Scalar.indexCast c0_i32_964
  let c5_i32_965 : BitVec 32 := 5#32
  let v1565 : Index := Scalar.indexCast c5_i32_965
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1566 : Index := Scalar.indexCast v956
  ![1, 0, 5, v1566.toNat]
def k0_off180 (k0_t3 : Fin k0_t3_loop.trips) : Fin 4 → Nat :=
  let c1_i32_966 : BitVec 32 := 1#32
  let v1572 : Index := Scalar.indexCast c1_i32_966
  let c1_i32_967 : BitVec 32 := 1#32
  let v1573 : Index := Scalar.indexCast c1_i32_967
  let c5_i32_968 : BitVec 32 := 5#32
  let v1574 : Index := Scalar.indexCast c5_i32_968
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1575 : Index := Scalar.indexCast v956
  ![1, 1, 5, v1575.toNat]
def k0_off181 (k0_t3 : Fin k0_t3_loop.trips) : Fin 4 → Nat :=
  let c1_i32_969 : BitVec 32 := 1#32
  let v1581 : Index := Scalar.indexCast c1_i32_969
  let c2_i32_970 : BitVec 32 := 2#32
  let v1582 : Index := Scalar.indexCast c2_i32_970
  let c5_i32_971 : BitVec 32 := 5#32
  let v1583 : Index := Scalar.indexCast c5_i32_971
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1584 : Index := Scalar.indexCast v956
  ![1, 2, 5, v1584.toNat]
def k0_off182 (k0_t3 : Fin k0_t3_loop.trips) : Fin 4 → Nat :=
  let c1_i32_972 : BitVec 32 := 1#32
  let v1590 : Index := Scalar.indexCast c1_i32_972
  let c3_i32_973 : BitVec 32 := 3#32
  let v1591 : Index := Scalar.indexCast c3_i32_973
  let c5_i32_974 : BitVec 32 := 5#32
  let v1592 : Index := Scalar.indexCast c5_i32_974
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1593 : Index := Scalar.indexCast v956
  ![1, 3, 5, v1593.toNat]
def k0_off183 (k0_t3 : Fin k0_t3_loop.trips) : Fin 4 → Nat :=
  let c1_i32_975 : BitVec 32 := 1#32
  let v1599 : Index := Scalar.indexCast c1_i32_975
  let c4_i32_976 : BitVec 32 := 4#32
  let v1600 : Index := Scalar.indexCast c4_i32_976
  let c5_i32_977 : BitVec 32 := 5#32
  let v1601 : Index := Scalar.indexCast c5_i32_977
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1602 : Index := Scalar.indexCast v956
  ![1, 4, 5, v1602.toNat]
def k0_off184 (k0_t3 : Fin k0_t3_loop.trips) : Fin 4 → Nat :=
  let c1_i32_978 : BitVec 32 := 1#32
  let v1608 : Index := Scalar.indexCast c1_i32_978
  let c5_i32_979 : BitVec 32 := 5#32
  let v1609 : Index := Scalar.indexCast c5_i32_979
  let c5_i32_980 : BitVec 32 := 5#32
  let v1610 : Index := Scalar.indexCast c5_i32_980
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1611 : Index := Scalar.indexCast v956
  ![1, 5, 5, v1611.toNat]
def k0_off185 (k0_t3 : Fin k0_t3_loop.trips) : Fin 4 → Nat :=
  let c1_i32_981 : BitVec 32 := 1#32
  let v1617 : Index := Scalar.indexCast c1_i32_981
  let c6_i32_982 : BitVec 32 := 6#32
  let v1618 : Index := Scalar.indexCast c6_i32_982
  let c5_i32_983 : BitVec 32 := 5#32
  let v1619 : Index := Scalar.indexCast c5_i32_983
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1620 : Index := Scalar.indexCast v956
  ![1, 6, 5, v1620.toNat]
def k0_off186 (k0_t3 : Fin k0_t3_loop.trips) : Fin 4 → Nat :=
  let c1_i32_984 : BitVec 32 := 1#32
  let v1626 : Index := Scalar.indexCast c1_i32_984
  let c7_i32_985 : BitVec 32 := 7#32
  let v1627 : Index := Scalar.indexCast c7_i32_985
  let c5_i32_986 : BitVec 32 := 5#32
  let v1628 : Index := Scalar.indexCast c5_i32_986
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1629 : Index := Scalar.indexCast v956
  ![1, 7, 5, v1629.toNat]
def k0_off187 (k0_t3 : Fin k0_t3_loop.trips) : Fin 4 → Nat :=
  let c1_i32_987 : BitVec 32 := 1#32
  let v1635 : Index := Scalar.indexCast c1_i32_987
  let c8_i32_988 : BitVec 32 := 8#32
  let v1636 : Index := Scalar.indexCast c8_i32_988
  let c5_i32_989 : BitVec 32 := 5#32
  let v1637 : Index := Scalar.indexCast c5_i32_989
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1638 : Index := Scalar.indexCast v956
  ![1, 8, 5, v1638.toNat]
def k0_off188 (k0_t3 : Fin k0_t3_loop.trips) : Fin 4 → Nat :=
  let c1_i32_990 : BitVec 32 := 1#32
  let v1644 : Index := Scalar.indexCast c1_i32_990
  let c9_i32_991 : BitVec 32 := 9#32
  let v1645 : Index := Scalar.indexCast c9_i32_991
  let c5_i32_992 : BitVec 32 := 5#32
  let v1646 : Index := Scalar.indexCast c5_i32_992
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1647 : Index := Scalar.indexCast v956
  ![1, 9, 5, v1647.toNat]
def k0_off189 (k0_t3 : Fin k0_t3_loop.trips) : Fin 4 → Nat :=
  let c1_i32_993 : BitVec 32 := 1#32
  let v1653 : Index := Scalar.indexCast c1_i32_993
  let c10_i32_994 : BitVec 32 := 10#32
  let v1654 : Index := Scalar.indexCast c10_i32_994
  let c5_i32_995 : BitVec 32 := 5#32
  let v1655 : Index := Scalar.indexCast c5_i32_995
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1656 : Index := Scalar.indexCast v956
  ![1, 10, 5, v1656.toNat]
def k0_off190 (k0_t3 : Fin k0_t3_loop.trips) : Fin 4 → Nat :=
  let c1_i32_996 : BitVec 32 := 1#32
  let v1662 : Index := Scalar.indexCast c1_i32_996
  let c11_i32_997 : BitVec 32 := 11#32
  let v1663 : Index := Scalar.indexCast c11_i32_997
  let c5_i32_998 : BitVec 32 := 5#32
  let v1664 : Index := Scalar.indexCast c5_i32_998
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1665 : Index := Scalar.indexCast v956
  ![1, 11, 5, v1665.toNat]
def k0_off191 (k0_t3 : Fin k0_t3_loop.trips) : Fin 3 → Nat :=
  let c1_i32_999 : BitVec 32 := 1#32
  let v1671 : Index := Scalar.indexCast c1_i32_999
  let c6_i32_1000 : BitVec 32 := 6#32
  let v1672 : Index := Scalar.indexCast c6_i32_1000
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1673 : Index := Scalar.indexCast v956
  ![1, 6, v1673.toNat]
def k0_off192 (k0_t3 : Fin k0_t3_loop.trips) : Fin 4 → Nat :=
  let c1_i32_1004 : BitVec 32 := 1#32
  let v1682 : Index := Scalar.indexCast c1_i32_1004
  let c0_i32_1005 : BitVec 32 := 0#32
  let v1683 : Index := Scalar.indexCast c0_i32_1005
  let c6_i32_1006 : BitVec 32 := 6#32
  let v1684 : Index := Scalar.indexCast c6_i32_1006
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1685 : Index := Scalar.indexCast v956
  ![1, 0, 6, v1685.toNat]
def k0_off193 (k0_t3 : Fin k0_t3_loop.trips) : Fin 4 → Nat :=
  let c1_i32_1007 : BitVec 32 := 1#32
  let v1691 : Index := Scalar.indexCast c1_i32_1007
  let c1_i32_1008 : BitVec 32 := 1#32
  let v1692 : Index := Scalar.indexCast c1_i32_1008
  let c6_i32_1009 : BitVec 32 := 6#32
  let v1693 : Index := Scalar.indexCast c6_i32_1009
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1694 : Index := Scalar.indexCast v956
  ![1, 1, 6, v1694.toNat]
def k0_off194 (k0_t3 : Fin k0_t3_loop.trips) : Fin 4 → Nat :=
  let c1_i32_1010 : BitVec 32 := 1#32
  let v1700 : Index := Scalar.indexCast c1_i32_1010
  let c2_i32_1011 : BitVec 32 := 2#32
  let v1701 : Index := Scalar.indexCast c2_i32_1011
  let c6_i32_1012 : BitVec 32 := 6#32
  let v1702 : Index := Scalar.indexCast c6_i32_1012
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1703 : Index := Scalar.indexCast v956
  ![1, 2, 6, v1703.toNat]
def k0_off195 (k0_t3 : Fin k0_t3_loop.trips) : Fin 4 → Nat :=
  let c1_i32_1013 : BitVec 32 := 1#32
  let v1709 : Index := Scalar.indexCast c1_i32_1013
  let c3_i32_1014 : BitVec 32 := 3#32
  let v1710 : Index := Scalar.indexCast c3_i32_1014
  let c6_i32_1015 : BitVec 32 := 6#32
  let v1711 : Index := Scalar.indexCast c6_i32_1015
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1712 : Index := Scalar.indexCast v956
  ![1, 3, 6, v1712.toNat]
def k0_off196 (k0_t3 : Fin k0_t3_loop.trips) : Fin 4 → Nat :=
  let c1_i32_1016 : BitVec 32 := 1#32
  let v1718 : Index := Scalar.indexCast c1_i32_1016
  let c4_i32_1017 : BitVec 32 := 4#32
  let v1719 : Index := Scalar.indexCast c4_i32_1017
  let c6_i32_1018 : BitVec 32 := 6#32
  let v1720 : Index := Scalar.indexCast c6_i32_1018
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1721 : Index := Scalar.indexCast v956
  ![1, 4, 6, v1721.toNat]
def k0_off197 (k0_t3 : Fin k0_t3_loop.trips) : Fin 4 → Nat :=
  let c1_i32_1019 : BitVec 32 := 1#32
  let v1727 : Index := Scalar.indexCast c1_i32_1019
  let c5_i32_1020 : BitVec 32 := 5#32
  let v1728 : Index := Scalar.indexCast c5_i32_1020
  let c6_i32_1021 : BitVec 32 := 6#32
  let v1729 : Index := Scalar.indexCast c6_i32_1021
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1730 : Index := Scalar.indexCast v956
  ![1, 5, 6, v1730.toNat]
def k0_off198 (k0_t3 : Fin k0_t3_loop.trips) : Fin 4 → Nat :=
  let c1_i32_1022 : BitVec 32 := 1#32
  let v1736 : Index := Scalar.indexCast c1_i32_1022
  let c6_i32_1023 : BitVec 32 := 6#32
  let v1737 : Index := Scalar.indexCast c6_i32_1023
  let c6_i32_1024 : BitVec 32 := 6#32
  let v1738 : Index := Scalar.indexCast c6_i32_1024
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1739 : Index := Scalar.indexCast v956
  ![1, 6, 6, v1739.toNat]
def k0_off199 (k0_t3 : Fin k0_t3_loop.trips) : Fin 4 → Nat :=
  let c1_i32_1025 : BitVec 32 := 1#32
  let v1745 : Index := Scalar.indexCast c1_i32_1025
  let c7_i32_1026 : BitVec 32 := 7#32
  let v1746 : Index := Scalar.indexCast c7_i32_1026
  let c6_i32_1027 : BitVec 32 := 6#32
  let v1747 : Index := Scalar.indexCast c6_i32_1027
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1748 : Index := Scalar.indexCast v956
  ![1, 7, 6, v1748.toNat]
def k0_off200 (k0_t3 : Fin k0_t3_loop.trips) : Fin 4 → Nat :=
  let c1_i32_1028 : BitVec 32 := 1#32
  let v1754 : Index := Scalar.indexCast c1_i32_1028
  let c8_i32_1029 : BitVec 32 := 8#32
  let v1755 : Index := Scalar.indexCast c8_i32_1029
  let c6_i32_1030 : BitVec 32 := 6#32
  let v1756 : Index := Scalar.indexCast c6_i32_1030
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1757 : Index := Scalar.indexCast v956
  ![1, 8, 6, v1757.toNat]
def k0_off201 (k0_t3 : Fin k0_t3_loop.trips) : Fin 4 → Nat :=
  let c1_i32_1031 : BitVec 32 := 1#32
  let v1763 : Index := Scalar.indexCast c1_i32_1031
  let c9_i32_1032 : BitVec 32 := 9#32
  let v1764 : Index := Scalar.indexCast c9_i32_1032
  let c6_i32_1033 : BitVec 32 := 6#32
  let v1765 : Index := Scalar.indexCast c6_i32_1033
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1766 : Index := Scalar.indexCast v956
  ![1, 9, 6, v1766.toNat]
def k0_off202 (k0_t3 : Fin k0_t3_loop.trips) : Fin 4 → Nat :=
  let c1_i32_1034 : BitVec 32 := 1#32
  let v1772 : Index := Scalar.indexCast c1_i32_1034
  let c10_i32_1035 : BitVec 32 := 10#32
  let v1773 : Index := Scalar.indexCast c10_i32_1035
  let c6_i32_1036 : BitVec 32 := 6#32
  let v1774 : Index := Scalar.indexCast c6_i32_1036
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1775 : Index := Scalar.indexCast v956
  ![1, 10, 6, v1775.toNat]
def k0_off203 (k0_t3 : Fin k0_t3_loop.trips) : Fin 4 → Nat :=
  let c1_i32_1037 : BitVec 32 := 1#32
  let v1781 : Index := Scalar.indexCast c1_i32_1037
  let c11_i32_1038 : BitVec 32 := 11#32
  let v1782 : Index := Scalar.indexCast c11_i32_1038
  let c6_i32_1039 : BitVec 32 := 6#32
  let v1783 : Index := Scalar.indexCast c6_i32_1039
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1784 : Index := Scalar.indexCast v956
  ![1, 11, 6, v1784.toNat]
def k0_off204 (k0_t3 : Fin k0_t3_loop.trips) : Fin 3 → Nat :=
  let c1_i32_1040 : BitVec 32 := 1#32
  let v1790 : Index := Scalar.indexCast c1_i32_1040
  let c7_i32_1041 : BitVec 32 := 7#32
  let v1791 : Index := Scalar.indexCast c7_i32_1041
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1792 : Index := Scalar.indexCast v956
  ![1, 7, v1792.toNat]
def k0_off205 (k0_t3 : Fin k0_t3_loop.trips) : Fin 4 → Nat :=
  let c1_i32_1045 : BitVec 32 := 1#32
  let v1801 : Index := Scalar.indexCast c1_i32_1045
  let c0_i32_1046 : BitVec 32 := 0#32
  let v1802 : Index := Scalar.indexCast c0_i32_1046
  let c7_i32_1047 : BitVec 32 := 7#32
  let v1803 : Index := Scalar.indexCast c7_i32_1047
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1804 : Index := Scalar.indexCast v956
  ![1, 0, 7, v1804.toNat]
def k0_off206 (k0_t3 : Fin k0_t3_loop.trips) : Fin 4 → Nat :=
  let c1_i32_1048 : BitVec 32 := 1#32
  let v1810 : Index := Scalar.indexCast c1_i32_1048
  let c1_i32_1049 : BitVec 32 := 1#32
  let v1811 : Index := Scalar.indexCast c1_i32_1049
  let c7_i32_1050 : BitVec 32 := 7#32
  let v1812 : Index := Scalar.indexCast c7_i32_1050
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1813 : Index := Scalar.indexCast v956
  ![1, 1, 7, v1813.toNat]
def k0_off207 (k0_t3 : Fin k0_t3_loop.trips) : Fin 4 → Nat :=
  let c1_i32_1051 : BitVec 32 := 1#32
  let v1819 : Index := Scalar.indexCast c1_i32_1051
  let c2_i32_1052 : BitVec 32 := 2#32
  let v1820 : Index := Scalar.indexCast c2_i32_1052
  let c7_i32_1053 : BitVec 32 := 7#32
  let v1821 : Index := Scalar.indexCast c7_i32_1053
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1822 : Index := Scalar.indexCast v956
  ![1, 2, 7, v1822.toNat]
def k0_off208 (k0_t3 : Fin k0_t3_loop.trips) : Fin 4 → Nat :=
  let c1_i32_1054 : BitVec 32 := 1#32
  let v1828 : Index := Scalar.indexCast c1_i32_1054
  let c3_i32_1055 : BitVec 32 := 3#32
  let v1829 : Index := Scalar.indexCast c3_i32_1055
  let c7_i32_1056 : BitVec 32 := 7#32
  let v1830 : Index := Scalar.indexCast c7_i32_1056
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1831 : Index := Scalar.indexCast v956
  ![1, 3, 7, v1831.toNat]
def k0_off209 (k0_t3 : Fin k0_t3_loop.trips) : Fin 4 → Nat :=
  let c1_i32_1057 : BitVec 32 := 1#32
  let v1837 : Index := Scalar.indexCast c1_i32_1057
  let c4_i32_1058 : BitVec 32 := 4#32
  let v1838 : Index := Scalar.indexCast c4_i32_1058
  let c7_i32_1059 : BitVec 32 := 7#32
  let v1839 : Index := Scalar.indexCast c7_i32_1059
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1840 : Index := Scalar.indexCast v956
  ![1, 4, 7, v1840.toNat]
def k0_off210 (k0_t3 : Fin k0_t3_loop.trips) : Fin 4 → Nat :=
  let c1_i32_1060 : BitVec 32 := 1#32
  let v1846 : Index := Scalar.indexCast c1_i32_1060
  let c5_i32_1061 : BitVec 32 := 5#32
  let v1847 : Index := Scalar.indexCast c5_i32_1061
  let c7_i32_1062 : BitVec 32 := 7#32
  let v1848 : Index := Scalar.indexCast c7_i32_1062
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1849 : Index := Scalar.indexCast v956
  ![1, 5, 7, v1849.toNat]
def k0_off211 (k0_t3 : Fin k0_t3_loop.trips) : Fin 4 → Nat :=
  let c1_i32_1063 : BitVec 32 := 1#32
  let v1855 : Index := Scalar.indexCast c1_i32_1063
  let c6_i32_1064 : BitVec 32 := 6#32
  let v1856 : Index := Scalar.indexCast c6_i32_1064
  let c7_i32_1065 : BitVec 32 := 7#32
  let v1857 : Index := Scalar.indexCast c7_i32_1065
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1858 : Index := Scalar.indexCast v956
  ![1, 6, 7, v1858.toNat]
def k0_off212 (k0_t3 : Fin k0_t3_loop.trips) : Fin 4 → Nat :=
  let c1_i32_1066 : BitVec 32 := 1#32
  let v1864 : Index := Scalar.indexCast c1_i32_1066
  let c7_i32_1067 : BitVec 32 := 7#32
  let v1865 : Index := Scalar.indexCast c7_i32_1067
  let c7_i32_1068 : BitVec 32 := 7#32
  let v1866 : Index := Scalar.indexCast c7_i32_1068
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1867 : Index := Scalar.indexCast v956
  ![1, 7, 7, v1867.toNat]
def k0_off213 (k0_t3 : Fin k0_t3_loop.trips) : Fin 4 → Nat :=
  let c1_i32_1069 : BitVec 32 := 1#32
  let v1873 : Index := Scalar.indexCast c1_i32_1069
  let c8_i32_1070 : BitVec 32 := 8#32
  let v1874 : Index := Scalar.indexCast c8_i32_1070
  let c7_i32_1071 : BitVec 32 := 7#32
  let v1875 : Index := Scalar.indexCast c7_i32_1071
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1876 : Index := Scalar.indexCast v956
  ![1, 8, 7, v1876.toNat]
def k0_off214 (k0_t3 : Fin k0_t3_loop.trips) : Fin 4 → Nat :=
  let c1_i32_1072 : BitVec 32 := 1#32
  let v1882 : Index := Scalar.indexCast c1_i32_1072
  let c9_i32_1073 : BitVec 32 := 9#32
  let v1883 : Index := Scalar.indexCast c9_i32_1073
  let c7_i32_1074 : BitVec 32 := 7#32
  let v1884 : Index := Scalar.indexCast c7_i32_1074
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1885 : Index := Scalar.indexCast v956
  ![1, 9, 7, v1885.toNat]
def k0_off215 (k0_t3 : Fin k0_t3_loop.trips) : Fin 4 → Nat :=
  let c1_i32_1075 : BitVec 32 := 1#32
  let v1891 : Index := Scalar.indexCast c1_i32_1075
  let c10_i32_1076 : BitVec 32 := 10#32
  let v1892 : Index := Scalar.indexCast c10_i32_1076
  let c7_i32_1077 : BitVec 32 := 7#32
  let v1893 : Index := Scalar.indexCast c7_i32_1077
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1894 : Index := Scalar.indexCast v956
  ![1, 10, 7, v1894.toNat]
def k0_off216 (k0_t3 : Fin k0_t3_loop.trips) : Fin 4 → Nat :=
  let c1_i32_1078 : BitVec 32 := 1#32
  let v1900 : Index := Scalar.indexCast c1_i32_1078
  let c11_i32_1079 : BitVec 32 := 11#32
  let v1901 : Index := Scalar.indexCast c11_i32_1079
  let c7_i32_1080 : BitVec 32 := 7#32
  let v1902 : Index := Scalar.indexCast c7_i32_1080
  let c0_i32_748 : BitVec 32 := 0#32
  let c1_i32_750 : BitVec 32 := 1#32
  let arg36 : BitVec 32 := Scf.iv c0_i32_748 c1_i32_750 k0_t3
  let c16_i32_752 : BitVec 32 := 16#32
  let v955 : BitVec 32 := Scalar.muli arg36 c16_i32_752
  let v956 : BitVec 32 := v955
  let v1903 : Index := Scalar.indexCast v956
  ![1, 11, 7, v1903.toNat]
def k0_off217 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_324_r0 : BitVec 32 := 0#32
  let c0_i32_325_r0 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x512x512 : Shape := ⟨4, ![4, 96, 512, 512]⟩
abbrev S4x512x512 : Shape := ⟨3, ![4, 512, 512]⟩
abbrev S96 : Shape := ⟨1, ![96]⟩
abbrev S_ : Shape := ⟨0, ![]⟩
abbrev S4x512x512x96 : Shape := ⟨4, ![4, 512, 512, 96]⟩
abbrev S1048576x96 : Shape := ⟨2, ![1048576, 96]⟩
abbrev S1048576 : Shape := ⟨1, ![1048576]⟩
abbrev S2x96 : Shape := ⟨2, ![2, 96]⟩
abbrev S1048576x1 : Shape := ⟨2, ![1048576, 1]⟩
abbrev S2 : Shape := ⟨1, ![2]⟩
abbrev S1x96 : Shape := ⟨2, ![1, 96]⟩
abbrev S1 : Shape := ⟨1, ![1]⟩

abbrev nBuf : Space → Nat
  | .hbm => 72
  | .vmem => 0
  | .smem => 0
  | _ => 0

abbrev bufTy : (tb : Table) → Fin (tcTables nBuf tb) → BufTy
  | .hbm, ⟨0, _⟩ => ⟨S4x96x512x512, .f32⟩
  | .hbm, ⟨1, _⟩ => ⟨S4x512x512, .f32⟩
  | .hbm, ⟨2, _⟩ => ⟨S96, .f32⟩
  | .hbm, ⟨3, _⟩ => ⟨S96, .f32⟩
  | .hbm, ⟨4, _⟩ => ⟨S_, .i32⟩
  | .hbm, ⟨5, _⟩ => ⟨S_, .i32⟩
  | .hbm, ⟨6, _⟩ => ⟨S4x512x512x96, .f32⟩
  | .hbm, ⟨7, _⟩ => ⟨S1048576x96, .f32⟩
  | .hbm, ⟨8, _⟩ => ⟨S_, .f32⟩
  | .hbm, ⟨9, _⟩ => ⟨S4x512x512, .f32⟩
  | .hbm, ⟨10, _⟩ => ⟨S4x512x512, .i1⟩
  | .hbm, ⟨11, _⟩ => ⟨S1048576, .i1⟩
  | .hbm, ⟨12, _⟩ => ⟨S1048576, .i32⟩
  | .hbm, ⟨13, _⟩ => ⟨S_, .f32⟩
  | .hbm, ⟨14, _⟩ => ⟨S2x96, .f32⟩
  | .hbm, ⟨15, _⟩ => ⟨S1048576x1, .i32⟩
  | .hbm, ⟨16, _⟩ => ⟨S2x96, .f32⟩
  | .hbm, ⟨17, _⟩ => ⟨S_, .f32⟩
  | .hbm, ⟨18, _⟩ => ⟨S1048576, .f32⟩
  | .hbm, ⟨19, _⟩ => ⟨S_, .f32⟩
  | .hbm, ⟨20, _⟩ => ⟨S2, .f32⟩
  | .hbm, ⟨21, _⟩ => ⟨S1048576x1, .i32⟩
  | .hbm, ⟨22, _⟩ => ⟨S2, .f32⟩
  | .hbm, ⟨23, _⟩ => ⟨S1x96, .f32⟩
  | .hbm, ⟨24, _⟩ => ⟨S96, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S96, .f32⟩
  | .hbm, ⟨30, _⟩ => ⟨S96, .f32⟩
  | .hbm, ⟨31, _⟩ => ⟨S1x96, .f32⟩
  | .hbm, ⟨32, _⟩ => ⟨S96, .f32⟩
  | .hbm, ⟨33, _⟩ => ⟨S1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S96, .f32⟩
  | .hbm, ⟨38, _⟩ => ⟨S96, .f32⟩
  | .hbm, ⟨39, _⟩ => ⟨S_, .i32⟩
  | .hbm, ⟨40, _⟩ => ⟨S_, .i1⟩
  | .hbm, ⟨41, _⟩ => ⟨S_, .f32⟩
  | .hbm, ⟨42, _⟩ => ⟨S96, .f32⟩
  | .hbm, ⟨43, _⟩ => ⟨S96, .f32⟩
  | .hbm, ⟨44, _⟩ => ⟨S_, .f32⟩
  | .hbm, ⟨45, _⟩ => ⟨S96, .f32⟩
  | .hbm, ⟨46, _⟩ => ⟨S96, .f32⟩
  | .hbm, ⟨47, _⟩ => ⟨S96, .f32⟩
  | .hbm, ⟨48, _⟩ => ⟨S96, .f32⟩
  | .hbm, ⟨49, _⟩ => ⟨S1, .f32⟩
  | .hbm, ⟨50, _⟩ => ⟨S_, .f32⟩
  | .hbm, ⟨51, _⟩ => ⟨S_, .f32⟩
  | .hbm, ⟨52, _⟩ => ⟨S_, .i1⟩
  | .hbm, ⟨53, _⟩ => ⟨S96, .f32⟩
  | .hbm, ⟨54, _⟩ => ⟨S_, .i32⟩
  | .hbm, ⟨55, _⟩ => ⟨S_, .i1⟩
  | .hbm, ⟨56, _⟩ => ⟨S_, .f32⟩
  | .hbm, ⟨57, _⟩ => ⟨S96, .f32⟩
  | .hbm, ⟨58, _⟩ => ⟨S96, .f32⟩
  | .hbm, ⟨59, _⟩ => ⟨S_, .f32⟩
  | .hbm, ⟨60, _⟩ => ⟨S96, .f32⟩
  | .hbm, ⟨61, _⟩ => ⟨S96, .f32⟩
  | .hbm, ⟨62, _⟩ => ⟨S96, .f32⟩
  | .hbm, ⟨63, _⟩ => ⟨S96, .f32⟩
  | .hbm, ⟨64, _⟩ => ⟨S1, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S96, .f32⟩
  | .hbm, ⟨69, _⟩ => ⟨S1x96, .f32⟩
  | .hbm, ⟨70, _⟩ => ⟨S1x96, .f32⟩
  | .hbm, ⟨71, _⟩ => ⟨S2x96, .f32⟩
  | _, _ => ⟨S4x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.Vals.lean ====
/-
  One subcore's task: the inner trip (eight rows of sixteen lanes, twelve channels) at symbolic coordinates.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.Kernel
public import proofs.«01_k».proof.Proof.Gen.Kernel.Skeleton

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-- The handshakes' rounds and the copies' counters. -/
abbrev UH : Type := URounds (GSem nD τ sig) ℕ
abbrev UU : Type := UH × Counters

local notation "𝕄" => MT nD τ sig (HIx 1) (Elt F) ℕ UU ℕ

abbrev 𝒱₀ : Variants := Variants.none

/-! ## The values of a trip -/

/-- The twenty-five accumulators, by number: 0 the count, 1–12 the selected sums, 13–24 the whole sums. -/
abbrev Acc (F : FTy → Type) : Type := Fin 25 → FVec F S16 .f32

/-- The accumulators as the loops carry them. -/
abbrev tup (a : Acc F) := (a 0, a 1, a 2, a 3, a 4, a 5, a 6, a 7, a 8, a 9, a 10, a 11, a 12, a 13, a 14, a 15, a 16, a 17, a 18, a 19, a 20, a 21, a 22, a 23, a 24)

/-- Sixteen features of channel `ch`, row `r`, from column `16 k` of a slot. -/
def featVec (s : ℕ) (f : S2x12x8x256.Idx → Elt F .f32) (ch r k : ℕ) : FVec F S16 .f32 :=
  fun x => f (ix4 (Fin.ofNat 2 s) (Fin.ofNat 12 ch) (Fin.ofNat 8 r) (Fin.ofNat 256 (16 * k + (x 0).val)))

variable [FloatOps F]

/-- Sixteen indicators of row `r` from column `16 k`: one where the mask is above one half, else zero. -/
def indVec (s : ℕ) (g : S2x8x256.Idx → Elt F .f32) (r k : ℕ) : FVec F S16 .f32 :=
  fun x => Scalar.select (FloatOps.cmpf .ogt (g (ix3 (Fin.ofNat 2 s) (Fin.ofNat 8 r) (Fin.ofNat 256 (16 * k + (x 0).val)))) (Scalar.ofBits .f32 0x3F000000#32))
    (Scalar.ofBits .f32 0x3F800000#32) (Scalar.ofBits .f32 0x00000000#32)

/-- What row `r` adds to accumulator `j`. -/
def rowTerm (s : ℕ) (f : S2x12x8x256.Idx → Elt F .f32) (g : S2x8x256.Idx → Elt F .f32) (r k : ℕ) : Acc F := fun j =>
  if j.val = 0 then indVec s g r k
  else if j.val < 13 then mulf (featVec s f (j.val - 1) r k) (indVec s g r k)
  else featVec s f (j.val - 13) r k

/-- The accumulators after the eight rows of a trip. -/
def trip (s : ℕ) (f : S2x12x8x256.Idx → Elt F .f32) (g : S2x8x256.Idx → Elt F .f32) (k : ℕ) (a : Acc F) : Acc F := fun j =>
  addf (addf (addf (addf (addf (addf (addf (addf (a j) (rowTerm s f g 0 k j)) (rowTerm s f g 1 k j)) (rowTerm s f g 2 k j)) (rowTerm s f g 3 k j))
    (rowTerm s f g 4 k j)) (rowTerm s f g 5 k j)) (rowTerm s f g 6 k j)) (rowTerm s f g 7 k j)

/-! ## The loads' values -/

theorem featLd (off : Fin 4 → Nat) [h : ClosedOff off] (inb : ∀ a, off a + S1x1x1x16.size a ≤ S2x12x8x256.size a) (f : S2x12x8x256.Idx → Elt F .f32)
    (s ch r k : ℕ) (hf : h.form = ![s, ch, r, 16 * k]) :
    shapeCast S16 (View.readAt (Elt F) (Memref.whole cc0_scratch0 : Memref sig .scVector .vmem S2x12x8x256 .f32).view (Rect.unit (s := S2x12x8x256) off S1x1x1x16.size inb).toLoadRect f) shapeCasts_S1x1x1x16_S16
      = (featVec s f ch r k : FVec F S16 .f32) := by
  have e : off = ![s, ch, r, 16 * k] := h.eq.trans hf
  clear hf h
  subst e
  have h0 : s < 2 := by have : s + 1 ≤ 2 := inb 0; omega
  have h1 : ch < 12 := by have : ch + 1 ≤ 12 := inb 1; omega
  have h2 : r < 8 := by have : r + 1 ≤ 8 := inb 2; omega
  have h3 : 16 * k + 16 ≤ 256 := inb 3
  funext x
  have hx : (x 0).val < 16 := (x 0).isLt
  have hr : Shape.reshapeEquiv (shapeCasts_S1x1x1x16_S16) x = (ix4 0 0 0 (x 0) : S1x1x1x16.Idx) := by
    refine Shape.reshapeEquiv_eq_of_rowMajor _ ?_
    rw [Shape.rowMajor_val_four, Shape.rowMajor_val_one]
    show (((0 * 1 + 0) * 1 + 0) * 16 + (x 0).val) = (x 0).val
    omega
  show f _ = f _
  congr 1
  rw [hr]
  funext a
  refine Fin.ext ?_
  fin_cases a
  · show s + 1 * 0 = s % 2; omega
  · show ch + 1 * 0 = ch % 12; omega
  · show r + 1 * 0 = r % 8; omega
  · show 16 * k + 1 * (x 0).val = (16 * k + (x 0).val) % 256; omega

theorem indLd (off : Fin 3 → Nat) [h : ClosedOff off] (inb : ∀ a, off a + S1x1x16.size a ≤ S2x8x256.size a) (g : S2x8x256.Idx → Elt F .f32)
    (s r k : ℕ) (hf : h.form = ![s, r, 16 * k]) :
    select (cmpf .ogt (shapeCast S16 (View.readAt (Elt F) (Memref.whole cc0_scratch1 : Memref sig .scVector .vmem S2x8x256 .f32).view (Rect.unit (s := S2x8x256) off S1x1x16.size inb).toLoadRect g) shapeCasts_S1x1x16_S16)
      (broadcast S16 (Scalar.ofBits .f32 0x3F000000#32))) (broadcast S16 (Scalar.ofBits .f32 0x3F800000#32)) (broadcast S16 (Scalar.ofBits .f32 0x00000000#32))
      = (indVec s g r k : FVec F S16 .f32) := by
  have e : off = ![s, r, 16 * k] := h.eq.trans hf
  clear hf h
  subst e
  have h0 : s < 2 := by have : s + 1 ≤ 2 := inb 0; omega
  have h2 : r < 8 := by have : r + 1 ≤ 8 := inb 1; omega
  have h3 : 16 * k + 16 ≤ 256 := inb 2
  funext x
  have hx : (x 0).val < 16 := (x 0).isLt
  have hr : Shape.reshapeEquiv (shapeCasts_S1x1x16_S16) x = (ix3 0 0 (x 0) : S1x1x16.Idx) := by
    refine Shape.reshapeEquiv_eq_of_rowMajor _ ?_
    rw [Shape.rowMajor_val_three, Shape.rowMajor_val_one]
    show ((0 * 1 + 0) * 16 + (x 0).val) = (x 0).val
    omega
  show Scalar.select (FloatOps.cmpf .ogt (g _) _) _ _ = Scalar.select (FloatOps.cmpf .ogt (g _) _) _ _
  refine congrArg (fun q => Scalar.select (FloatOps.cmpf .ogt (g q) (Scalar.ofBits .f32 0x3F000000#32)) (Scalar.ofBits .f32 0x3F800000#32) (Scalar.ofBits .f32 0x00000000#32)) ?_
  rw [hr]
  funext a
  refine Fin.ext ?_
  fin_cases a
  · show s + 1 * 0 = s % 2; omega
  · show r + 1 * 0 = r % 8; omega
  · show 16 * k + 1 * (x 0).val = (16 * k + (x 0).val) % 256; omega

theorem tup_ext {c0 c1 c2 c3 c4 c5 c6 c7 c8 c9 c10 c11 c12 c13 c14 c15 c16 c17 c18 c19 c20 c21 c22 c23 c24 : FVec F S16 .f32} {b : Acc F}
    (h0 : c0 = b 0) (h1 : c1 = b 1) (h2 : c2 = b 2) (h3 : c3 = b 3) (h4 : c4 = b 4) (h5 : c5 = b 5) (h6 : c6 = b 6) (h7 : c7 = b 7) (h8 : c8 = b 8)
    (h9 : c9 = b 9) (h10 : c10 = b 10) (h11 : c11 = b 11) (h12 : c12 = b 12) (h13 : c13 = b 13) (h14 : c14 = b 14) (h15 : c15 = b 15) (h16 : c16 = b 16)
    (h17 : c17 = b 17) (h18 : c18 = b 18) (h19 : c19 = b 19) (h20 : c20 = b 20) (h21 : c21 = b 21) (h22 : c22 = b 22) (h23 : c23 = b 23) (h24 : c24 = b 24) :
    (c0, c1, c2, c3, c4, c5, c6, c7, c8, c9, c10, c11, c12, c13, c14, c15, c16, c17, c18, c19, c20, c21, c22, c23, c24) = tup b := by
  subst h0 h1 h2 h3 h4 h5 h6 h7 h8 h9 h10 h11 h12 h13 h14 h15 h16 h17 h18 h19 h20 h21 h22 h23 h24; rfl

/-- Eight additions to an accumulator, addend by addend. -/
theorem adds8 {s : ℕ} {f : S2x12x8x256.Idx → Elt F .f32} {g : S2x8x256.Idx → Elt F .f32} {k : ℕ} {a : Acc F} {j : Fin 25} {t : ℕ → FVec F S16 .f32}
    {b0 b1 b2 b3 b4 b5 b6 b7 : FVec F S16 .f32}
    (ht : ∀ r, rowTerm s f g r k j = t r)
    (h0 : b0 = t 0) (h1 : b1 = t 1) (h2 : b2 = t 2) (h3 : b3 = t 3) (h4 : b4 = t 4) (h5 : b5 = t 5) (h6 : b6 = t 6) (h7 : b7 = t 7) :
    addf (addf (addf (addf (addf (addf (addf (addf (a j) b0) b1) b2) b3) b4) b5) b6) b7 = trip s f g k a j := by
  unfold trip; simp only [ht]; subst h0 h1 h2 h3 h4 h5 h6 h7; rfl

theorem mul_eq {A A' b b' : FVec F S16 .f32} (h : A = A') (h' : b = b') : mulf A b = mulf A' b' := by rw [h, h']

section Tile

variable (d : Dev nD) (L : grid0.Coords)

abbrev cV (L : grid0.Coords) : Fin τ.nSC := (L 0).castLE hcore0
abbrev jV (L : grid0.Coords) : Fin τ.nSub := (L 1).castLE hsub0

/-- The window of the feature scratch that one copy fills, and of the mask scratch. -/
abbrev fW (s ch : ℕ) (h : ∀ a, (![s, ch, 0, 0] : Fin 4 → Nat) a + S1x1x8x256.size a ≤ S2x12x8x256.size a) : Memref sig .scVector .vmem S8x256 .f32 :=
  ((Memref.whole cc0_scratch0 : Memref sig .scVector .vmem S2x12x8x256 .f32).slice (Rect.unit (s := S2x12x8x256) ![s, ch, 0, 0] S1x1x8x256.size h) (fun _ => rfl)).squeeze S8x256 squeezes_S1x1x8x256_S8x256
abbrev mW (s : ℕ) (h : ∀ a, (![s, 0, 0] : Fin 3 → Nat) a + S1x8x256.size a ≤ S2x8x256.size a) : Memref sig .scVector .vmem S8x256 .f32 :=
  ((Memref.whole cc0_scratch1 : Memref sig .scVector .vmem S2x8x256 .f32).slice (Rect.unit (s := S2x8x256) ![s, 0, 0] S1x8x256.size h) (fun _ => rfl)).squeeze S8x256 squeezes_S1x8x256_S8x256

abbrev fWPts (d : Dev nD) (L : grid0.Coords) (s ch : ℕ) (h : ∀ a, (![s, ch, 0, 0] : Fin 4 → Nat) a + S1x1x8x256.size a ≤ S2x12x8x256.size a)
    (f : S2x12x8x256.Idx → Elt F .f32) : sProp 𝕄 :=
  (fW s ch h).view.loc (V d (cV L) (jV L)) ↦[(fW s ch h).view.set]{fullShare} f
abbrev mWPts (d : Dev nD) (L : grid0.Coords) (s : ℕ) (h : ∀ a, (![s, 0, 0] : Fin 3 → Nat) a + S1x8x256.size a ≤ S2x8x256.size a)
    (g : S2x8x256.Idx → Elt F .f32) : sProp 𝕄 :=
  (mW s h).view.loc (V d (cV L) (jV L)) ↦[(mW s h).view.set]{fullShare} g

/-- A slot of the two scratches, held by its own elements. -/
abbrev SF : Shape := ⟨4, ![1, 12, 8, 256]⟩
abbrev fS (s : ℕ) (h : ∀ a, (![s, 0, 0, 0] : Fin 4 → Nat) a + SF.size a ≤ S2x12x8x256.size a) : Memref sig .scVector .vmem SF .f32 :=
  (Memref.whole cc0_scratch0 : Memref sig .scVector .vmem S2x12x8x256 .f32).slice (Rect.unit (s := S2x12x8x256) ![s, 0, 0, 0] SF.size h) (fun _ => rfl)
abbrev mS (s : ℕ) (h : ∀ a, (![s, 0, 0] : Fin 3 → Nat) a + S1x8x256.size a ≤ S2x8x256.size a) : Memref sig .scVector .vmem S1x8x256 .f32 :=
  (Memref.whole cc0_scratch1 : Memref sig .scVector .vmem S2x8x256 .f32).slice (Rect.unit (s := S2x8x256) ![s, 0, 0] S1x8x256.size h) (fun _ => rfl)
theorem inbF0 : ∀ a, (![0, 0, 0, 0] : Fin 4 → Nat) a + SF.size a ≤ S2x12x8x256.size a := by decide
theorem inbF1 : ∀ a, (![1, 0, 0, 0] : Fin 4 → Nat) a + SF.size a ≤ S2x12x8x256.size a := by decide

abbrev slotPts (d : Dev nD) (L : grid0.Coords) (s : ℕ) (h : ∀ a, (![s, 0, 0, 0] : Fin 4 → Nat) a + SF.size a ≤ S2x12x8x256.size a)
    (h' : ∀ a, (![s, 0, 0] : Fin 3 → Nat) a + S1x8x256.size a ≤ S2x8x256.size a)
    (f : S2x12x8x256.Idx → Elt F .f32) (g : S2x8x256.Idx → Elt F .f32) : sProp 𝕄 :=
  iprop(((mS s h').view.loc (V d (cV L) (jV L)) ↦[(mS s h').view.set]{fullShare} g)
    ∗ ((fS s h).view.loc (V d (cV L) (jV L)) ↦[(fS s h).view.set]{fullShare} f))

abbrev slot0 (d : Dev nD) (L : grid0.Coords) (f : S2x12x8x256.Idx → Elt F .f32) (g : S2x8x256.Idx → Elt F .f32) : sProp 𝕄 :=
  slotPts d L 0 inbF0 inb_S2x8x256_S1x8x256_0_0_0 f g

end Tile

end Cert.Proof.Kernel

end
-- ==== Proof.Trip.lean ====
/-
  One subcore's task: the inner trip (eight rows of sixteen lanes, twelve channels) at symbolic coordinates, run on a slot held whole.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.Kernel
public import proofs.«01_k».proof.Proof.Gen.Kernel.Skeleton
public import proofs.«01_k».proof.Proof.Vals

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Tile

variable (d : Dev nD) (L : grid0.Coords)

theorem trip0 (f : S2x12x8x256.Idx → Elt F .f32) (g : S2x8x256.Idx → Elt F .f32) (k0_t1 : Fin k0_t1_loop.trips) (k : Fin k0_t2_loop.trips)
    (x0 x1 x2 x3 x4 x5 x6 x7 x8 x9 x10 x11 x12 x13 x14 x15 x16 x17 x18 x19 x20 x21 x22 x23 x24 : FVec F S16 .f32) (a10 : BitVec 32) (a : Acc F) :
    (slot0 d L f g : sProp 𝕄)
      ⊢ wp frame (wpE (defs₀ (F := F)) 𝒱₀ (V d (cV L) (jV L)) none) Set.univ
          (k0_t2_body L (Memref.whole main_arg0_scv) (Memref.isWhole_whole _) (Memref.whole main_arg1_scv) (Memref.isWhole_whole _)
            (Memref.whole main_v0_scv) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scoped0 k0_t1
            x0 x1 x2 x3 x4 x5 x6 x7 x8 x9 x10 x11 x12 x13 x14 x15 x16 x17 x18 x19 x20 x21 x22 x23 x24 a10 k (tup a))
          fun r => iprop(⌜r = tup (trip 0 f g k.val a)⌝ ∗ slot0 d L f g) := by
  unfold k0_t2_body
  iintro ⟨Hm, Hf⟩
  have hk : k.val < 16 := k.isLt
  sl_exec
  sl_step
  isplitr [Hm Hf]
  · ipureintro
    sl_unfold_run_names
    refine tup_ext (adds8 (fun _ => rfl) ?_ ?_ ?_ ?_ ?_ ?_ ?_ ?_) ?_ ?_ ?_ ?_ ?_ ?_ ?_ ?_ ?_ ?_ ?_ ?_ ?_ ?_ ?_ ?_ ?_ ?_ ?_ ?_ ?_ ?_ ?_ ?_
    iterate 8 exact indLd _ _ _ _ _ _ rfl
    iterate 12
      refine adds8 (fun _ => rfl) ?_ ?_ ?_ ?_ ?_ ?_ ?_ ?_ <;> exact mul_eq (featLd _ _ _ _ _ _ _ rfl) (indLd _ _ _ _ _ _ rfl)
    iterate 12
      refine adds8 (fun _ => rfl) ?_ ?_ ?_ ?_ ?_ ?_ ?_ ?_ <;> exact featLd _ _ _ _ _ _ _ rfl
  isplitl [Hm]
  · iexact Hm
  iexact Hf

abbrev slot1 (d : Dev nD) (L : grid0.Coords) (f : S2x12x8x256.Idx → Elt F .f32) (g : S2x8x256.Idx → Elt F .f32) : sProp 𝕄 :=
  slotPts d L 1 inbF1 inb_S2x8x256_S1x8x256_1_0_0 f g

theorem trip1 (f : S2x12x8x256.Idx → Elt F .f32) (g : S2x8x256.Idx → Elt F .f32) (k : Fin k0_t3_loop.trips)
    (v29 : BitVec 32) (v30 : FVec F S16 .f32) (a : Acc F) :
    (slot1 d L f g : sProp 𝕄)
      ⊢ wp frame (wpE (defs₀ (F := F)) 𝒱₀ (V d (cV L) (jV L)) none) Set.univ
          (k0_t3_body L (Memref.whole main_arg0_scv) (Memref.isWhole_whole _) (Memref.whole main_arg1_scv) (Memref.isWhole_whole _)
            (Memref.whole main_v0_scv) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scoped0 v29 v30 k (tup a))
          fun r => iprop(⌜r = tup (trip 1 f g k.val a)⌝ ∗ slot1 d L f g) := by
  unfold k0_t3_body
  iintro ⟨Hm, Hf⟩
  have hk : k.val < 16 := k.isLt
  sl_exec
  sl_step
  isplitr [Hm Hf]
  · ipureintro
    sl_unfold_run_names
    refine tup_ext (adds8 (fun _ => rfl) ?_ ?_ ?_ ?_ ?_ ?_ ?_ ?_) ?_ ?_ ?_ ?_ ?_ ?_ ?_ ?_ ?_ ?_ ?_ ?_ ?_ ?_ ?_ ?_ ?_ ?_ ?_ ?_ ?_ ?_ ?_ ?_
    iterate 8 exact indLd _ _ _ _ _ _ rfl
    iterate 12
      refine adds8 (fun _ => rfl) ?_ ?_ ?_ ?_ ?_ ?_ ?_ ?_ <;> exact mul_eq (featLd _ _ _ _ _ _ _ rfl) (indLd _ _ _ _ _ _ rfl)
    iterate 12
      refine adds8 (fun _ => rfl) ?_ ?_ ?_ ?_ ?_ ?_ ?_ ?_ <;> exact featLd _ _ _ _ _ _ _ rfl
  isplitl [Hm]
  · iexact Hm
  iexact Hf

end Tile

end Cert.Proof.Kernel

end
-- ==== Proof.Offs.lean ====
/-
  The offsets of the copies' sources, in closed form: which rows, columns and channels of the arrays a chunk is.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.Kernel
public import proofs.«01_k».proof.Proof.Gen.Kernel.Skeleton

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-- A subcore's number: the row of the result it fills. -/
abbrev wid (i : grid0.Coords) : ℕ := 2 * (i 1).val + (i 0).val

/-- The mask window of chunk `n`, and its feature window for the subcore's channel `c`. -/
abbrev mOff (i : grid0.Coords) (n : ℕ) : Fin 3 → ℕ := ![wid i / 8, 8 * (n / 2), 256 * (n % 2)]
abbrev fOff (i : grid0.Coords) (n c : ℕ) : Fin 4 → ℕ := ![wid i / 8, wid i % 8 * 12 + c, 8 * (n / 2), 256 * (n % 2)]

def mkC (c : Fin (grid0.bound 0)) (s : Fin (grid0.bound 1)) : grid0.Coords :=
  fun | 0 => c | 1 => s | ⟨_ + 2, h⟩ => absurd h (Nat.not_lt.2 (Nat.le_add_left _ _))

theorem vec3 {f g : Fin 3 → ℕ} (h0 : f 0 = g 0) (h1 : f 1 = g 1) (h2 : f 2 = g 2) : f = g := by
  funext a; fin_cases a <;> assumption
theorem vec4 {f g : Fin 4 → ℕ} (h0 : f 0 = g 0) (h1 : f 1 = g 1) (h2 : f 2 = g 2) (h3 : f 3 = g 3) : f = g := by
  funext a; fin_cases a <;> assumption

abbrev k00 : Fin k0_t1_loop.trips := ⟨0, by decide⟩
abbrev i00 : grid0.Coords := mkC ⟨0, by decide⟩ ⟨0, by decide⟩

theorem off1_eq (i : grid0.Coords) : k0_off1 i = mOff i 0 := by revert i; decide +kernel

theorem off2_col : ∀ (a : Fin (grid0.bound 0)) (b : Fin (grid0.bound 1)) (c : Fin 12),
    k0_off2 (mkC a b) (BitVec.ofNat 32 c.val) 0 = (2 * b.val + a.val) / 8 ∧ k0_off2 (mkC a b) (BitVec.ofNat 32 c.val) 1 = (2 * b.val + a.val) % 8 * 12 + c.val := by
  decide +kernel
theorem off2_eq (i : grid0.Coords) (c : Fin 12) : k0_off2 i (BitVec.ofNat 32 c.val) = fOff i 0 c.val :=
  vec4 (off2_col (i 0) (i 1) c).1 (off2_col (i 0) (i 1) c).2 rfl rfl

theorem off3_row : ∀ k : Fin k0_t1_loop.trips, k0_off3 i00 k 1 = 8 * ((2 * k.val + 1) / 2) ∧ k0_off3 i00 k 2 = 256 * ((2 * k.val + 1) % 2) := by decide +kernel
theorem off3_eq (i : grid0.Coords) (k : Fin k0_t1_loop.trips) : k0_off3 i k = mOff i (2 * k.val + 1) :=
  vec3 (congrFun (off1_eq i) 0) (off3_row k).1 (off3_row k).2
theorem off4_row : ∀ k : Fin k0_t1_loop.trips, k0_off4 i00 k 0#32 2 = 8 * ((2 * k.val + 1) / 2) ∧ k0_off4 i00 k 0#32 3 = 256 * ((2 * k.val + 1) % 2) := by decide +kernel
theorem off4_eq (i : grid0.Coords) (k : Fin k0_t1_loop.trips) (c : Fin 12) : k0_off4 i k (BitVec.ofNat 32 c.val) = fOff i (2 * k.val + 1) c.val :=
  vec4 (off2_col (i 0) (i 1) c).1 (off2_col (i 0) (i 1) c).2 (off4_row k).1 (off4_row k).2

theorem off111_row : ∀ k : Fin k0_t1_loop.trips, k0_off111 i00 k 1 = 8 * ((2 * k.val + 2) % 128 / 2) ∧ k0_off111 i00 k 2 = 256 * ((2 * k.val + 2) % 128 % 2) := by decide +kernel
theorem off111_eq (i : grid0.Coords) (k : Fin k0_t1_loop.trips) : k0_off111 i k = mOff i ((2 * k.val + 2) % 128) :=
  vec3 (congrFun (off1_eq i) 0) (off111_row k).1 (off111_row k).2
theorem off112_row : ∀ k : Fin k0_t1_loop.trips, k0_off112 i00 k 0#32 2 = 8 * ((2 * k.val + 2) % 128 / 2) ∧ k0_off112 i00 k 0#32 3 = 256 * ((2 * k.val + 2) % 128 % 2) := by decide +kernel
theorem off112_eq (i : grid0.Coords) (k : Fin k0_t1_loop.trips) (c : Fin 12) : k0_off112 i k (BitVec.ofNat 32 c.val) = fOff i ((2 * k.val + 2) % 128) c.val :=
  vec4 (off2_col (i 0) (i 1) c).1 (off2_col (i 0) (i 1) c).2 (off112_row k).1 (off112_row k).2

end Cert.Proof.Kernel

end
-- ==== Proof.Copies.lean ====
/-
  The copies of a chunk: their sources, what each delivers, and the two scratches' slots as the copies' thirteen windows.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.Kernel
public import proofs.«01_k».proof.Proof.Gen.Kernel.Skeleton
public import Idealize.ShloMosaic.Lib.Batch
public import Idealize.ShloMosaic.Lib.ValueLayout
public import proofs.«01_k».proof.Proof.Vals
public import proofs.«01_k».proof.Proof.Offs

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-! ## A chunk's contents in a slot -/

/-- A slot's features when it holds chunk `n`; -/
def FB (fv : S4x96x512x512.Idx → Elt F .f32) (i : grid0.Coords) (n : ℕ) : S2x12x8x256.Idx → Elt F .f32 := fun y =>
  fv (ix4 (Fin.ofNat 4 (wid i / 8)) (Fin.ofNat 96 (wid i % 8 * 12 + (y 1).val)) (Fin.ofNat 512 (8 * (n / 2) + (y 2).val)) (Fin.ofNat 512 (256 * (n % 2) + (y 3).val)))
/-- its mask. -/
def MB (mv : S4x512x512.Idx → Elt F .f32) (i : grid0.Coords) (n : ℕ) : S2x8x256.Idx → Elt F .f32 := fun y =>
  mv (ix3 (Fin.ofNat 4 (wid i / 8)) (Fin.ofNat 512 (8 * (n / 2) + (y 1).val)) (Fin.ofNat 512 (256 * (n % 2) + (y 2).val)))

/-! ## The sources -/

abbrev srcM (off : Fin 3 → ℕ) (h : ∀ a, off a + S1x8x256.size a ≤ S4x512x512.size a) : Memref sig .scVector .hbm S8x256 .f32 :=
  ((Memref.whole main_arg1_scv : Memref sig .scVector .hbm S4x512x512 .f32).slice (Rect.unit (s := S4x512x512) off S1x8x256.size h) (fun _ => rfl)).squeeze S8x256 squeezes_S1x8x256_S8x256
abbrev srcF (off : Fin 4 → ℕ) (h : ∀ a, off a + S1x1x8x256.size a ≤ S4x96x512x512.size a) : Memref sig .scVector .hbm S8x256 .f32 :=
  ((Memref.whole main_arg0_scv : Memref sig .scVector .hbm S4x96x512x512 .f32).slice (Rect.unit (s := S4x96x512x512) off S1x1x8x256.size h) (fun _ => rfl)).squeeze S8x256 squeezes_S1x1x8x256_S8x256

theorem inbW {s c : ℕ} (hs : s < 2) (hc : c < 12) : ∀ a, (![s, c, 0, 0] : Fin 4 → ℕ) a + S1x1x8x256.size a ≤ S2x12x8x256.size a := by
  intro a; fin_cases a
  · show s + 1 ≤ 2; omega
  · show c + 1 ≤ 12; omega
  · show 0 + 8 ≤ 8; omega
  · show 0 + 256 ≤ 256; omega
theorem inbFS {s : ℕ} (hs : s < 2) : ∀ a, (![s, 0, 0, 0] : Fin 4 → ℕ) a + SF.size a ≤ S2x12x8x256.size a := by
  intro a; fin_cases a
  · show s + 1 ≤ 2; omega
  · show 0 + 12 ≤ 12; omega
  · show 0 + 8 ≤ 8; omega
  · show 0 + 256 ≤ 256; omega
theorem inbMS {s : ℕ} (hs : s < 2) : ∀ a, (![s, 0, 0] : Fin 3 → ℕ) a + S1x8x256.size a ≤ S2x8x256.size a := by
  intro a; fin_cases a
  · show s + 1 ≤ 2; omega
  · show 0 + 8 ≤ 8; omega
  · show 0 + 256 ≤ 256; omega

theorem ix2_eta (y : S8x256.Idx) : y = ix2 (y 0) (y 1) := by
  funext a; fin_cases a <;> rfl

omit [FloatOps F] in
theorem read_f (s c : ℕ) (hs : s < 2) (hc : c < 12) (i : grid0.Coords) (n : ℕ) (off : Fin 4 → ℕ) (h) (e : off = fOff i n c) (fv : S4x96x512x512.Idx → Elt F .f32) :
    (srcF off h).view.read (Elt F) fv = (fW s c (inbW hs hc)).view.read (Elt F) (FB fv i n) := by
  subst e
  have h0 : wid i / 8 + 1 ≤ 4 := h 0
  have h1 : wid i % 8 * 12 + c + 1 ≤ 96 := h 1
  have h2 : 8 * (n / 2) + 8 ≤ 512 := h 2
  have h3 : 256 * (n % 2) + 256 ≤ 512 := h 3
  funext y
  have hy0 : (y 0).val < 8 := (y 0).isLt
  have hy1 : (y 1).val < 256 := (y 1).isLt
  have hr : Shape.reshapeEquiv squeezes_S1x1x8x256_S8x256.numel_eq y = (ix4 (⟨0, Nat.one_pos⟩ : Fin 1) (⟨0, Nat.one_pos⟩ : Fin 1) (y 0) (y 1) : S1x1x8x256.Idx) := by
    rw [ix2_eta y]; exact reshapeEquiv_ix2_11ab _ _ _
  show fv ((Rect.unit (s := S4x96x512x512) _ S1x1x8x256.size h).idx (Shape.reshapeEquiv squeezes_S1x1x8x256_S8x256.numel_eq y)) = FB fv i n ((Rect.unit (s := S2x12x8x256) _ S1x1x8x256.size (inbW hs hc)).idx (Shape.reshapeEquiv squeezes_S1x1x8x256_S8x256.numel_eq y))
  rw [hr]
  show fv _ = fv _
  congr 1
  funext a
  refine Fin.ext ?_
  fin_cases a
  · show wid i / 8 + 1 * 0 = wid i / 8 % 4; omega
  · show wid i % 8 * 12 + c + 1 * 0 = (wid i % 8 * 12 + (c + 1 * 0)) % 96; omega
  · show 8 * (n / 2) + 1 * (y 0).val = (8 * (n / 2) + (0 + 1 * (y 0).val)) % 512; omega
  · show 256 * (n % 2) + 1 * (y 1).val = (256 * (n % 2) + (0 + 1 * (y 1).val)) % 512; omega

omit [FloatOps F] in
theorem read_m (s : ℕ) (hs : s < 2) (i : grid0.Coords) (n : ℕ) (off : Fin 3 → ℕ) (h) (e : off = mOff i n) (mv : S4x512x512.Idx → Elt F .f32) :
    (srcM off h).view.read (Elt F) mv = (mW s (inbMS hs)).view.read (Elt F) (MB mv i n) := by
  subst e
  have h0 : wid i / 8 + 1 ≤ 4 := h 0
  have h2 : 8 * (n / 2) + 8 ≤ 512 := h 1
  have h3 : 256 * (n % 2) + 256 ≤ 512 := h 2
  funext y
  have hy0 : (y 0).val < 8 := (y 0).isLt
  have hy1 : (y 1).val < 256 := (y 1).isLt
  have hr : Shape.reshapeEquiv squeezes_S1x8x256_S8x256.numel_eq y = (ix3 (⟨0, Nat.one_pos⟩ : Fin 1) (y 0) (y 1) : S1x8x256.Idx) := by
    rw [ix2_eta y]; exact reshapeEquiv_ix2_1ab _ _ _
  show mv ((Rect.unit (s := S4x512x512) _ S1x8x256.size h).idx (Shape.reshapeEquiv squeezes_S1x8x256_S8x256.numel_eq y)) = MB mv i n ((Rect.unit (s := S2x8x256) _ S1x8x256.size (inbMS hs)).idx (Shape.reshapeEquiv squeezes_S1x8x256_S8x256.numel_eq y))
  rw [hr]
  show mv _ = mv _
  congr 1
  funext a
  refine Fin.ext ?_
  fin_cases a
  · show wid i / 8 + 1 * 0 = wid i / 8 % 4; omega
  · show 8 * (n / 2) + 1 * (y 0).val = (8 * (n / 2) + (0 + 1 * (y 0).val)) % 512; omega
  · show 256 * (n % 2) + 1 * (y 1).val = (256 * (n % 2) + (0 + 1 * (y 1).val)) % 512; omega

/-! ## What a copy delivers -/

section Deliveries

variable (d : Dev nD) (L : grid0.Coords)

abbrev srcMPts (d : Dev nD) (L : grid0.Coords) (off : Fin 3 → ℕ) (h : ∀ a, off a + S1x8x256.size a ≤ S4x512x512.size a) (q : PosShare TreeShare) (mv : S4x512x512.Idx → Elt F .f32) : sProp 𝕄 :=
  (srcM off h).view.loc (V d (cV L) (jV L)) ↦[(srcM off h).view.set]{q} mv
abbrev srcFPts (d : Dev nD) (L : grid0.Coords) (off : Fin 4 → ℕ) (h : ∀ a, off a + S1x1x8x256.size a ≤ S4x96x512x512.size a) (q : PosShare TreeShare) (fv : S4x96x512x512.Idx → Elt F .f32) : sProp 𝕄 :=
  (srcF off h).view.loc (V d (cV L) (jV L)) ↦[(srcF off h).view.set]{q} fv

abbrev mLand (d : Dev nD) (L : grid0.Coords) (s : ℕ) (hs : s < 2) (off : Fin 3 → ℕ) (h : ∀ a, off a + S1x8x256.size a ≤ S4x512x512.size a) (mv : S4x512x512.Idx → Elt F .f32) : sProp 𝕄 :=
  mWPts d L s (inbMS hs) ((mW s (inbMS hs)).view.writes (Elt F) (mW s (inbMS hs)).view.junk [⟨Rect.whole S8x256, ReadAs.same.apply ((srcM off h).view.read (Elt F) mv)⟩])
abbrev fLand (d : Dev nD) (L : grid0.Coords) (s c : ℕ) (hs : s < 2) (hc : c < 12) (off : Fin 4 → ℕ) (h : ∀ a, off a + S1x1x8x256.size a ≤ S4x96x512x512.size a) (fv : S4x96x512x512.Idx → Elt F .f32) : sProp 𝕄 :=
  fWPts d L s c (inbW hs hc) ((fW s c (inbW hs hc)).view.writes (Elt F) (fW s c (inbW hs hc)).view.junk [⟨Rect.whole S8x256, ReadAs.same.apply ((srcF off h).view.read (Elt F) fv)⟩])

theorem mLand_eq (s : ℕ) (hs : s < 2) (n : ℕ) (off : Fin 3 → ℕ) (h) (e : off = mOff L n) (mv : S4x512x512.Idx → Elt F .f32) :
    (mLand d L s hs off h mv : sProp 𝕄) = mWPts d L s (inbMS hs) (MB mv L n) := by
  unfold mLand mWPts
  rw [pointsTo_rep (Ix := HIx 1) (Name := ℕ) (U := UU) (Lvl := ℕ) (V d (cV L) (jV L)) (mW s (inbMS hs)), pointsTo_rep (Ix := HIx 1) (Name := ℕ) (U := UU) (Lvl := ℕ) (V d (cV L) (jV L)) (mW s (inbMS hs)) (MB mv L n),
    View.read_writes_whole, ← read_m s hs L n off h e mv]
theorem fLand_eq (s c : ℕ) (hs : s < 2) (hc : c < 12) (n : ℕ) (off : Fin 4 → ℕ) (h) (e : off = fOff L n c) (fv : S4x96x512x512.Idx → Elt F .f32) :
    (fLand d L s c hs hc off h fv : sProp 𝕄) = fWPts d L s c (inbW hs hc) (FB fv L n) := by
  unfold fLand fWPts
  rw [pointsTo_rep (Ix := HIx 1) (Name := ℕ) (U := UU) (Lvl := ℕ) (V d (cV L) (jV L)) (fW s c (inbW hs hc)), pointsTo_rep (Ix := HIx 1) (Name := ℕ) (U := UU) (Lvl := ℕ) (V d (cV L) (jV L)) (fW s c (inbW hs hc)) (FB fv L n),
    View.read_writes_whole, ← read_f s c hs hc L n off h e fv]

/-- The thirteen deliveries of a chunk into slot `s`, in the order the copies are issued: the mask's, then the channels'. -/
def deliv (d : Dev nD) (L : grid0.Coords) (s : ℕ) (hs : s < 2) (om : Fin 3 → ℕ) (hm : ∀ a, om a + S1x8x256.size a ≤ S4x512x512.size a)
    (of : Fin 12 → Fin 4 → ℕ) (hf : ∀ c a, of c a + S1x1x8x256.size a ≤ S4x96x512x512.size a) (qm qf : PosShare TreeShare)
    (fv : S4x96x512x512.Idx → Elt F .f32) (mv : S4x512x512.Idx → Elt F .f32) : Fin 13 → sProp 𝕄 :=
  Fin.cons (iprop(mLand d L s hs om hm mv ∗ srcMPts d L om hm qm mv))
    (fun c : Fin 12 => iprop(fLand d L s c.val hs c.isLt (of c) (hf c) fv ∗ srcFPts d L (of c) (hf c) (Transfers.shareTokN qf c.val) fv))

instance deliv_storable (s : ℕ) (hs : s < 2) (om : Fin 3 → ℕ) (hm) (of : Fin 12 → Fin 4 → ℕ) (hf) (qm qf : PosShare TreeShare)
    (fv : S4x96x512x512.Idx → Elt F .f32) (mv : S4x512x512.Idx → Elt F .f32) (t : Fin 13) :
    BI.Storable (upEmb : UEmb _ 𝕄) (deliv d L s hs om hm of hf qm qf fv mv t) := by
  refine Fin.cases ?_ (fun c => ?_) t
  · exact (inferInstance : BI.Storable (upEmb : UEmb _ 𝕄) (iprop(mLand d L s hs om hm mv ∗ srcMPts d L om hm qm mv)))
  · exact (inferInstance : BI.Storable (upEmb : UEmb _ 𝕄) (iprop(fLand d L s c.val hs c.isLt (of c) (hf c) fv ∗ srcFPts d L (of c) (hf c) (Transfers.shareTokN qf c.val) fv)))

/-! ## A slot as thirteen windows -/

omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem fW_set (s c : ℕ) (h) : (fW s c h).view.set = (Rect.unit (s := S2x12x8x256) ![s, c, 0, 0] S1x1x8x256.size h).set :=
  (View.set_reshape _ _).trans (View.set_slice_whole _ _)
theorem fS_set (s : ℕ) (h) : (fS s h).view.set = (Rect.unit (s := S2x12x8x256) ![s, 0, 0, 0] SF.size h).set := View.set_slice_whole _ _

theorem mem_fW (s c : ℕ) (h) (y : S2x12x8x256.Idx) : y ∈ (fW s c h).view.set ↔ (y 0).val = s ∧ (y 1).val = c := by
  rw [fW_set]
  refine Rect.mem_set_unit.trans ⟨fun H => ?_, fun H a => ?_⟩
  · have h0 : s ≤ (y 0).val ∧ (y 0).val < s + 1 := H 0
    have h1 : c ≤ (y 1).val ∧ (y 1).val < c + 1 := H 1
    omega
  · have e2 : (y 2).val < 8 := (y 2).isLt
    have e3 : (y 3).val < 256 := (y 3).isLt
    fin_cases a
    · show s ≤ (y 0).val ∧ (y 0).val < s + 1; omega
    · show c ≤ (y 1).val ∧ (y 1).val < c + 1; omega
    · show 0 ≤ (y 2).val ∧ (y 2).val < 0 + 8; omega
    · show 0 ≤ (y 3).val ∧ (y 3).val < 0 + 256; omega
theorem mem_fS (s : ℕ) (h) (y : S2x12x8x256.Idx) : y ∈ (fS s h).view.set ↔ (y 0).val = s := by
  rw [fS_set]
  refine Rect.mem_set_unit.trans ⟨fun H => ?_, fun H a => ?_⟩
  · have h0 : s ≤ (y 0).val ∧ (y 0).val < s + 1 := H 0
    omega
  · have e1 : (y 1).val < 12 := (y 1).isLt
    have e2 : (y 2).val < 8 := (y 2).isLt
    have e3 : (y 3).val < 256 := (y 3).isLt
    fin_cases a
    · show s ≤ (y 0).val ∧ (y 0).val < s + 1; omega
    · show 0 ≤ (y 1).val ∧ (y 1).val < 0 + 12; omega
    · show 0 ≤ (y 2).val ∧ (y 2).val < 0 + 8; omega
    · show 0 ≤ (y 3).val ∧ (y 3).val < 0 + 256; omega

theorem fS_biUnion (s : ℕ) (hs : s < 2) : (fS s (inbFS hs)).view.set = (Finset.univ : Finset (Fin 12)).biUnion fun c => (fW s c.val (inbW hs c.isLt)).view.set := by
  ext y
  refine (mem_fS s _ y).trans ((Iff.trans ?_ Finset.mem_biUnion.symm))
  constructor
  · intro h; exact ⟨y 1, Finset.mem_univ _, (mem_fW _ _ _ y).mpr ⟨h, rfl⟩⟩
  · rintro ⟨c, -, h⟩; exact ((mem_fW _ _ _ y).mp h).1

omit [FloatOps F] in
theorem slot_windows (s : ℕ) (hs : s < 2) (f : S2x12x8x256.Idx → Elt F .f32) (g : S2x8x256.Idx → Elt F .f32) :
    (slotPts d L s (inbFS hs) (inbMS hs) f g : sProp 𝕄) = iprop(mWPts d L s (inbMS hs) g ∗ bigSep Finset.univ fun c : Fin 12 => fWPts d L s c.val (inbW hs c.isLt) f) := by
  have e1 : ((mS s (inbMS hs)).view.loc (V d (cV L) (jV L)) ↦[(mS s (inbMS hs)).view.set]{fullShare} g : sProp 𝕄) = mWPts d L s (inbMS hs) g := by
    unfold mWPts
    rw [show (mW s (inbMS hs)).view.set = (mS s (inbMS hs)).view.set from View.set_reshape _ _]
  have e2 : ((fS s (inbFS hs)).view.loc (V d (cV L) (jV L)) ↦[(fS s (inbFS hs)).view.set]{fullShare} f : sProp 𝕄)
      = bigSep Finset.univ fun c : Fin 12 => fWPts d L s c.val (inbW hs c.isLt) f := by
    rw [fS_biUnion s hs]
    refine pointsTo_biUnion _ _ fun t _ t' _ hne => ?_
    refine Finset.disjoint_left.mpr fun y h h' => hne (Fin.ext ?_)
    exact ((mem_fW _ _ _ y).mp h).2.symm.trans ((mem_fW _ _ _ y).mp h').2
  unfold slotPts
  rw [e1, e2]
omit [FloatOps F] in
theorem slot_eq (s : ℕ) (hs : s < 2) (f : S2x12x8x256.Idx → Elt F .f32) (g : S2x8x256.Idx → Elt F .f32) :
    (slotPts d L s (inbFS hs) (inbMS hs) f g : sProp 𝕄) = iprop(mWPts d L s (inbMS hs) g ∗ fWPts d L s 0 (inbW hs (by decide)) f ∗ fWPts d L s 1 (inbW hs (by decide)) f ∗ fWPts d L s 2 (inbW hs (by decide)) f ∗ fWPts d L s 3 (inbW hs (by decide)) f ∗ fWPts d L s 4 (inbW hs (by decide)) f ∗ fWPts d L s 5 (inbW hs (by decide)) f ∗ fWPts d L s 6 (inbW hs (by decide)) f ∗ fWPts d L s 7 (inbW hs (by decide)) f ∗ fWPts d L s 8 (inbW hs (by decide)) f ∗ fWPts d L s 9 (inbW hs (by decide)) f ∗ fWPts d L s 10 (inbW hs (by decide)) f ∗ fWPts d L s 11 (inbW hs (by decide)) f) := by
  rw [slot_windows d L s hs, bigSep_fin12]
  rfl

end Deliveries

end Cert.Proof.Kernel

end
-- ==== Proof.Outer.lean ====
/-
  A trip of the outer loop: two chunks, one per slot, each fetched while the other is summed.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.Kernel
public import proofs.«01_k».proof.Proof.Gen.Kernel.Skeleton
public import proofs.«01_k».proof.Proof.Trip
public import proofs.«01_k».proof.Proof.Copies

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Tile

variable (d : Dev nD) (L : grid0.Coords)

/-! ## Chunks -/

/-- The accumulators after the first `k` trips of a chunk. -/
def trips (s : ℕ) (f : S2x12x8x256.Idx → Elt F .f32) (g : S2x8x256.Idx → Elt F .f32) (a : Acc F) : ℕ → Acc F
  | 0 => a
  | k + 1 => trip s f g k (trips s f g a k)

/-- The accumulators after the first `n` chunks. -/
def accN (fv : S4x96x512x512.Idx → Elt F .f32) (mv : S4x512x512.Idx → Elt F .f32) (i : grid0.Coords) : ℕ → Acc F
  | 0 => fun _ => broadcast S16 (Scalar.ofBits .f32 0x00000000#32)
  | n + 1 => trips 0 (FB fv i n) (MB mv i n) (accN fv mv i n) 16

/-- A slot's number is not read in the values of a chunk. -/
theorem trips_one (fv : S4x96x512x512.Idx → Elt F .f32) (mv : S4x512x512.Idx → Elt F .f32) (i : grid0.Coords) (n : ℕ) (a : Acc F) (k : ℕ) :
    trips 1 (FB fv i n) (MB mv i n) a k = trips 0 (FB fv i n) (MB mv i n) a k := by
  induction k with
  | zero => rfl
  | succ k ih => unfold trips; rw [ih]; rfl

/-! ## Read shares of the two arrays -/

abbrev featPts (d : Dev nD) (L : grid0.Coords) (q : PosShare TreeShare) (fv : S4x96x512x512.Idx → Elt F .f32) : sProp 𝕄 :=
  (Memref.whole main_arg0_scv : Memref sig .scVector .hbm S4x96x512x512 .f32).view.loc (V d (cV L) (jV L)) ↦{q} fv
abbrev maskPts (d : Dev nD) (L : grid0.Coords) (q : PosShare TreeShare) (mv : S4x512x512.Idx → Elt F .f32) : sProp 𝕄 :=
  (Memref.whole main_arg1_scv : Memref sig .scVector .hbm S4x512x512 .f32).view.loc (V d (cV L) (jV L)) ↦{q} mv

omit [FloatOps F] in
theorem feat_srcs (q : PosShare TreeShare) (of : Fin 12 → Fin 4 → ℕ) (hf : ∀ c a, of c a + S1x1x8x256.size a ≤ S4x96x512x512.size a) (fv : S4x96x512x512.Idx → Elt F .f32) :
    (featPts d L q fv : sProp 𝕄) ⊢ iprop(featPts d L (Transfers.shareDrop q 12) fv ∗ srcFPts d L (of 0) (hf 0) (Transfers.shareTokN q 0) fv ∗ srcFPts d L (of 1) (hf 1) (Transfers.shareTokN q 1) fv ∗ srcFPts d L (of 2) (hf 2) (Transfers.shareTokN q 2) fv ∗ srcFPts d L (of 3) (hf 3) (Transfers.shareTokN q 3) fv ∗ srcFPts d L (of 4) (hf 4) (Transfers.shareTokN q 4) fv ∗ srcFPts d L (of 5) (hf 5) (Transfers.shareTokN q 5) fv ∗ srcFPts d L (of 6) (hf 6) (Transfers.shareTokN q 6) fv ∗ srcFPts d L (of 7) (hf 7) (Transfers.shareTokN q 7) fv ∗ srcFPts d L (of 8) (hf 8) (Transfers.shareTokN q 8) fv ∗ srcFPts d L (of 9) (hf 9) (Transfers.shareTokN q 9) fv ∗ srcFPts d L (of 10) (hf 10) (Transfers.shareTokN q 10) fv ∗ srcFPts d L (of 11) (hf 11) (Transfers.shareTokN q 11) fv) := by
  refine (Transfers.pointsTo_toks_split q 12).trans (sep_mono .rfl ?_)
  refine (bigSep_mono (Ψ := fun c : Fin 12 => srcFPts d L (of c) (hf c) (Transfers.shareTokN q c.val) fv) fun c _ => ?_).trans (Entails.of_eq (bigSep_fin12 _))
  refine (pointsTo_split_subset (Finset.subset_univ (srcF (of c) (hf c)).view.set)).1.trans ?_
  iintro ⟨H, -⟩
  iexact H
omit [FloatOps F] in
theorem mask_src (q : PosShare TreeShare) (om : Fin 3 → ℕ) (hm : ∀ a, om a + S1x8x256.size a ≤ S4x512x512.size a) (mv : S4x512x512.Idx → Elt F .f32) :
    (maskPts d L q mv : sProp 𝕄) ⊢ iprop(maskPts d L q.left mv ∗ srcMPts d L om hm q.right mv) := by
  refine (pointsTo_share (PosShare.mem_left_op_right q)).1.trans (sep_mono .rfl ?_)
  refine (pointsTo_split_subset (Finset.subset_univ (srcM om hm).view.set)).1.trans ?_
  iintro ⟨H, -⟩
  iexact H

/-- Channel `c`'s landed copy. -/
abbrev landF (d : Dev nD) (L : grid0.Coords) (s : ℕ) (hs : s < 2) (of : Fin 12 → Fin 4 → ℕ) (hf : ∀ c a, of c a + S1x1x8x256.size a ≤ S4x96x512x512.size a)
    (fv : S4x96x512x512.Idx → Elt F .f32) (c : Fin 12) : sProp 𝕄 := fLand d L s c.val hs c.isLt (of c) (hf c) fv

/-- A slot whose thirteen copies have landed holds the chunk. -/
theorem landed (s : ℕ) (hs : s < 2) (n : ℕ) (om : Fin 3 → ℕ) (hm : ∀ a, om a + S1x8x256.size a ≤ S4x512x512.size a)
    (of : Fin 12 → Fin 4 → ℕ) (hf : ∀ c a, of c a + S1x1x8x256.size a ≤ S4x96x512x512.size a) (em : om = mOff L n) (ef : ∀ c : Fin 12, of c = fOff L n c.val)
    (fv : S4x96x512x512.Idx → Elt F .f32) (mv : S4x512x512.Idx → Elt F .f32) :
    (iprop(mLand d L s hs om hm mv ∗ landF d L s hs of hf fv 0 ∗ landF d L s hs of hf fv 1 ∗ landF d L s hs of hf fv 2 ∗ landF d L s hs of hf fv 3 ∗ landF d L s hs of hf fv 4 ∗ landF d L s hs of hf fv 5 ∗ landF d L s hs of hf fv 6 ∗ landF d L s hs of hf fv 7 ∗ landF d L s hs of hf fv 8 ∗ landF d L s hs of hf fv 9 ∗ landF d L s hs of hf fv 10 ∗ landF d L s hs of hf fv 11) : sProp 𝕄)
      ⊢ slotPts d L s (inbFS hs) (inbMS hs) (FB fv L n) (MB mv L n) := by
  rw [slot_windows d L s hs]
  refine BI.sep_mono (Entails.of_eq (mLand_eq d L s hs n om hm em mv)) ?_
  refine (Entails.of_eq (bigSep_fin12 (landF d L s hs of hf fv)).symm).trans (bigSep_mono fun c _ => ?_)
  exact Entails.of_eq (fLand_eq d L s c.val hs c.isLt n (of c) (hf c) (ef c) fv)

/-- A chunk's copies in flight to slot `s`. -/
abbrev flight (d : Dev nD) (L : grid0.Coords) (s : ℕ) (hs : s < 2) (sm : DmaSem sig) (om : Fin 3 → ℕ) (hm : ∀ a, om a + S1x8x256.size a ≤ S4x512x512.size a)
    (of : Fin 12 → Fin 4 → ℕ) (hf : ∀ c a, of c a + S1x1x8x256.size a ≤ S4x96x512x512.size a) (qm qf : PosShare TreeShare)
    (fv : S4x96x512x512.Idx → Elt F .f32) (mv : S4x512x512.Idx → Elt F .f32) (j : ℕ) : sProp 𝕄 :=
  Transfers.Batch (countersEmb (U := UU)) (V d (cV L) (jV L)) (.dma sm) (default : HIx 1) ((mW s (inbMS hs)).view.amount (SemLoc.dma (sig := sig) sm))
    (deliv d L s hs om hm of hf qm qf fv mv) j 0

/-- The type of the accumulators as the loops carry them. -/
abbrev AccT (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

abbrev outerBody (L : grid0.Coords) (v29 : BitVec 32) (v30 : FVec F S16 .f32) :=
  k0_t1_body (F := F) L (Memref.whole main_arg0_scv) (Memref.isWhole_whole _) (Memref.whole main_arg1_scv) (Memref.isWhole_whole _)
    (Memref.whole main_v0_scv) (Memref.isWhole_whole _) (Memref.whole cc0_scratch0) (Memref.isWhole_whole _) (Memref.whole cc0_scratch1) (Memref.isWhole_whole _)
    (Memref.whole cc0_scratch2) (Memref.isWhole_whole _) cc0_scratch3 cc0_scratch4 cc0_scoped0 v29 v30

def inv (d : Dev nD) (L : grid0.Coords) (fv : S4x96x512x512.Idx → Elt F .f32) (mv : S4x512x512.Idx → Elt F .f32) (O : CellTallies nD τ sig (HIx 1)) (W : Waits sig (HIx 1))
    (k : ℕ) (acc : AccT F) : sProp 𝕄 :=
  iprop(⌜acc = tup (accN fv mv L (2 * k))⌝ ∗ Transfers.MayWaits (V d (cV L) (jV L)) (none : HIx 1) O
    ∗ (∃ om hm of hf qm qf, ⌜om = mOff L (2 * k % 128) ∧ ∀ c : Fin 12, of c = fOff L (2 * k % 128) c.val⌝
        ∗ flight d L 0 (by decide) cc0_scratch3.sem om hm of hf qm qf fv mv 13)
    ∗ (∃ f g, slot1 d L f g) ∗ semVal (V d (cV L) (jV L), SemLoc.dma cc0_scratch4.sem) 0
    ∗ (∃ q, featPts d L q fv) ∗ (∃ q, maskPts d L q mv)
    ∗ ∃ W', ⌜∀ p ∈ W', p ∈ W ∨ p.2 = none⌝ ∗ owes (V d (cV L) (jV L)) O W')

omit [FloatOps F] in
/-- A wait at a chunk's semaphore adds nothing to what is charged. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- The chunks a trip sums. -/
theorem accN_trip (fv : S4x96x512x512.Idx → Elt F .f32) (mv : S4x512x512.Idx → Elt F .f32) (i : grid0.Coords) (k : ℕ) (hk : k < 64) :
    trips 1 (FB fv i (2 * k + 1)) (MB mv i (2 * k + 1)) (trips 0 (FB fv i (2 * k % 128)) (MB mv i (2 * k % 128)) (accN fv mv i (2 * k)) 16) 16 = accN fv mv i (2 * (k + 1)) := by
  rw [trips_one, Nat.mod_eq_of_lt (show 2 * k < 128 by omega)]
  rfl

theorem outer_trip (fv : S4x96x512x512.Idx → Elt F .f32) (mv : S4x512x512.Idx → Elt F .f32) (O : CellTallies nD τ sig (HIx 1)) (W : Waits sig (HIx 1))
    (v29 : BitVec 32) (v30 : FVec F S16 .f32) (k : Fin k0_t1_loop.trips) (acc : AccT F) :
    (inv d L fv mv O W k.val acc : sProp 𝕄)
      ⊢ wp frame (wpE (defs₀ (F := F)) 𝒱₀ (V d (cV L) (jV L)) none) Set.univ (outerBody L v29 v30 k acc) fun r => inv d L fv mv O W (k.val + 1) r := by
  unfold inv
  iintro ⟨%hacc, Hmw, ⟨%om, %hm, %of, %hf, %qm, %qf, %hoff, HB⟩, ⟨%f1, %g1, Hs1⟩, Hsem, ⟨%q, HF⟩, ⟨%q', HM⟩, %W', %hW', HO⟩
  subst hacc
  ihave Hs1' := (Entails.of_eq (slot_eq d L 1 (by decide) f1 g1)) $$ Hs1
  icases Hs1' with ⟨Hw, Hw0, Hw1, Hw2, Hw3, Hw4, Hw5, Hw6, Hw7, Hw8, Hw9, Hw10, Hw11⟩
  ihave HF' := (feat_srcs d L q (fun c => k0_off4 L k (BitVec.ofNat 32 c.val)) (fun c => k0_off4_inb L k c) fv) $$ HF
  icases HF' with ⟨HF, HF0, HF1, HF2, HF3, HF4, HF5, HF6, HF7, HF8, HF9, HF10, HF11⟩
  ihave HM' := (mask_src d L q' (k0_off3 L k) (k0_off3_inb L k) mv) $$ HM
  icases HM' with ⟨HM, HM0⟩
  imod (Transfers.batch_alloc' (Lvl := ℕ) (countersEmb (U := UU)) (V d (cV L) (jV L)) (default : HIx 1) ((mW 1 (inbMS Nat.one_lt_two)).view.amount (SemLoc.dma (sig := sig) cc0_scratch4.sem))
    (deliv d L 1 Nat.one_lt_two (k0_off3 L k) (k0_off3_inb L k) (fun c => k0_off4 L k (BitVec.ofNat 32 c.val)) (fun c => k0_off4_inb L k c) q'.right q fv mv)
    (sm := .dma cc0_scratch4.sem) (E := Set.univ)) $$ Hsem with HB1
  unfold outerBody k0_t1_body
  sl_exec
  ihave Hs0 := (landed d L 0 (by decide) (2 * k.val % 128) om hm of hf hoff.1 hoff.2 fv mv) $$ [HB_dst0 HB_dst1 HB_dst2 HB_dst3 HB_dst4 HB_dst5 HB_dst6 HB_dst7 HB_dst8 HB_dst9 HB_dst10 HB_dst11 HB_dst12]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    isplitl [HB_dst11]; · iexact HB_dst11
    iexact HB_dst12
  iclear HB_src0 HB_src1 HB_src2 HB_src3 HB_src4 HB_src5 HB_src6 HB_src7 HB_src8 HB_src9 HB_src10 HB_src11 HB_src12
  sl_for (fun (j : ℕ) (acc : AccT F) => (iprop(⌜acc = tup (trips 0 (FB fv L (2 * k.val % 128)) (MB mv L (2 * k.val % 128)) (accN fv mv L (2 * k.val)) j)⌝ ∗ slot0 d L (FB fv L (2 * k.val % 128)) (MB mv L (2 * k.val % 128))) : sProp 𝕄)) $$ [Hs0]
  case region =>
    intro j acc
    iintro ⟨%h, H⟩
    subst h
    iapply (trip0 d L) $$ H
  · isplitr
    · ipureintro; rfl
    · iexact Hs0
  iintro %acc ⟨%hacc, Hs0⟩
  subst hacc
  ihave Hs0' := (Entails.of_eq (slot_eq d L 0 (by decide) _ _)) $$ Hs0
  icases Hs0' with ⟨Hw, Hw0, Hw1, Hw2, Hw3, Hw4, Hw5, Hw6, Hw7, Hw8, Hw9, Hw10, Hw11⟩
  ihave HF' := (feat_srcs d L (Transfers.shareDrop q 12) (fun c => k0_off112 L k (BitVec.ofNat 32 c.val)) (fun c => k0_off112_inb L k c) fv) $$ HF
  icases HF' with ⟨HF, HF0, HF1, HF2, HF3, HF4, HF5, HF6, HF7, HF8, HF9, HF10, HF11⟩
  ihave HM' := (mask_src d L q'.left (k0_off111 L k) (k0_off111_inb L k) mv) $$ HM
  icases HM' with ⟨HM, HM0⟩
  ihave Hsem : iprop(semVal (V d (cV L) (jV L), SemLoc.dma cc0_scratch3.sem) 0) $$ [HB]; · iexact HB
  imod (Transfers.batch_alloc' (Lvl := ℕ) (countersEmb (U := UU)) (V d (cV L) (jV L)) (default : HIx 1) ((mW 0 (inbMS Nat.zero_lt_two)).view.amount (SemLoc.dma (sig := sig) cc0_scratch3.sem))
    (deliv d L 0 Nat.zero_lt_two (k0_off111 L k) (k0_off111_inb L k) (fun c => k0_off112 L k (BitVec.ofNat 32 c.val)) (fun c => k0_off112_inb L k c) q'.left.right (Transfers.shareDrop q 12) fv mv)
    (sm := .dma cc0_scratch3.sem) (E := Set.univ)) $$ Hsem with HB0
  sl_exec
  ihave Hs1 := (landed d L 1 (by decide) (2 * k.val + 1) (k0_off3 L k) (k0_off3_inb L k) (fun c => k0_off4 L k (BitVec.ofNat 32 c.val)) (fun c => k0_off4_inb L k c) (off3_eq L k) (fun c => off4_eq L k c) fv mv) $$ [HB1_dst0 HB1_dst1 HB1_dst2 HB1_dst3 HB1_dst4 HB1_dst5 HB1_dst6 HB1_dst7 HB1_dst8 HB1_dst9 HB1_dst10 HB1_dst11 HB1_dst12]
  · isplitl [HB1_dst0]; · iexact HB1_dst0
    isplitl [HB1_dst1]; · iexact HB1_dst1
    isplitl [HB1_dst2]; · iexact HB1_dst2
    isplitl [HB1_dst3]; · iexact HB1_dst3
    isplitl [HB1_dst4]; · iexact HB1_dst4
    isplitl [HB1_dst5]; · iexact HB1_dst5
    isplitl [HB1_dst6]; · iexact HB1_dst6
    isplitl [HB1_dst7]; · iexact HB1_dst7
    isplitl [HB1_dst8]; · iexact HB1_dst8
    isplitl [HB1_dst9]; · iexact HB1_dst9
    isplitl [HB1_dst10]; · iexact HB1_dst10
    isplitl [HB1_dst11]; · iexact HB1_dst11
    iexact HB1_dst12
  iclear HB1_src0 HB1_src1 HB1_src2 HB1_src3 HB1_src4 HB1_src5 HB1_src6 HB1_src7 HB1_src8 HB1_src9 HB1_src10 HB1_src11 HB1_src12
  sl_for (fun (j : ℕ) (acc : AccT F) => (iprop(⌜acc = tup (trips 1 (FB fv L (2 * k.val + 1)) (MB mv L (2 * k.val + 1)) (trips 0 (FB fv L (2 * k.val % 128)) (MB mv L (2 * k.val % 128)) (accN fv mv L (2 * k.val)) 16) j)⌝ ∗ slot1 d L (FB fv L (2 * k.val + 1)) (MB mv L (2 * k.val + 1))) : sProp 𝕄)) $$ [Hs1]
  case region =>
    intro j acc
    iintro ⟨%h, H⟩
    subst h
    iapply (trip1 d L) $$ H
  · isplitr
    · ipureintro; rfl
    · iexact Hs1
  iintro %acc ⟨%hacc, Hs1⟩
  subst hacc
  sl_exec
  sl_step
  isplitr
  · ipureintro
    exact congrArg tup (accN_trip fv mv L k.val k.isLt)
  isplitl [Hmw]; · iexact Hmw
  isplitl [HB0]
  · iexists _, _, _, _, _, _
    isplitr
    · ipureintro
      exact ⟨off111_eq L k, fun c => off112_eq L k c⟩
    · iexact HB0
  isplitl [Hs1]; · iexists _, _; iexact Hs1
  isplitl [HB1]; · iexact HB1
  isplitl [HF]; · iexists _; iexact HF
  isplitl [HM]; · iexists _; iexact HM
  iexists _
  isplitr
  rotate_left
  · iexact HO
  · ipureintro
    repeat (refine waits_insert _ ?_)
    exact hW'

end Tile

end Cert.Proof.Kernel

end
-- ==== Proof.Tile.lean ====
/-
  The task of one vector subcore, whole: the first chunk's copies, the outer loop, and its row of the result.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.Kernel
public import proofs.«01_k».proof.Proof.Gen.Kernel.Skeleton
public import Idealize.ShloMosaic.Lib.WritesUnit
public import proofs.«01_k».proof.Proof.Outer
public import proofs.«01_k».proof.Proof.Copies

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Tile

variable (d : Dev nD) (L : grid0.Coords)

/-- The rows of a task's result, in its scratch and in the array. -/
abbrev obuf : Memref sig .scVector .vmem S25x16 .f32 := Memref.whole cc0_scratch2
abbrev oRow (L : grid0.Coords) : Memref sig .scVector .hbm S25x16 .f32 :=
  ((Memref.whole main_v0_scv : Memref sig .scVector .hbm S32x25x16 .f32).slice (Rect.unit (s := S32x25x16) (k0_off217 L) S1x25x16.size (k0_off217_inb L)) (fun _ => rfl)).squeeze S25x16 squeezes_S1x25x16_S25x16

/-! ## The rows -/

theorem inbO (j : Fin 25) : ∀ a, (![j.val, 0] : Fin 2 → ℕ) a + S1x16.size a ≤ S25x16.size a := by
  intro a
  have := j.isLt
  fin_cases a
  · show j.val + 1 ≤ 25; omega
  · show 0 + 16 ≤ 16; omega

/-- Accumulator `j` as it is stored. -/
def rowPc (a : Acc F) (j : Fin 25) : View.Piece (Elt F) S25x16 .f32 :=
  ⟨Rect.unit (s := S25x16) ![j.val, 0] S1x16.size (inbO j), shapeCast S1x16 (a j) shapeCasts_S16_S1x16⟩

theorem row_cast (x : FVec F S16 .f32) (l : Fin 16) : shapeCast S1x16 x shapeCasts_S16_S1x16 (ix2 (0 : Fin 1) l) = x (ix1 l) := by
  refine congrArg x (Shape.reshapeEquiv_eq_of_rowMajor _ ?_)
  rw [Shape.rowMajor_val_one, Shape.rowMajor_val_two]
  show l.val = 0 * 16 + l.val
  omega

/-- After the stores of the rows in `js`, each of them is read back. -/
theorem read_rows (a : Acc F) (f : S25x16.Idx → Elt F .f32) (j : Fin 25) (l : Fin 16) (js : List (Fin 25)) (h : j ∈ js) :
    (obuf).view.read (Elt F) ((obuf).view.writes (Elt F) f (js.map (rowPc a))) (ix2 j l) = a j (ix1 l) := by
  induction js with
  | nil => cases h
  | cons t js ih =>
    by_cases e : j = t
    · subst e
      refine (View.read_writes_cons_rows_of_mem (o := j.val) _ _ _ _ _ (ix2 j l) (ix2 (0 : Fin 1) l) rfl (Nat.add_zero _).symm rfl).trans ?_
      exact row_cast _ _
    · refine (View.read_writes_cons_rows_of_not_mem (o := t.val) (W := 1) _ _ _ _ _ _ rfl rfl ?_).trans (ih ((List.mem_cons.mp h).resolve_left e))
      have : j.val ≠ t.val := fun h => e (Fin.ext h)
      show j.val < t.val ∨ t.val + 1 ≤ j.val
      omega

/-- The subcore whose row is `w`. -/
def tileOf (w : Fin 32) : grid0.Coords := mkC ⟨w.val % 2, Nat.mod_lt _ (by decide)⟩ ⟨w.val / 2, by have := w.isLt; show w.val / 2 < 16; omega⟩

theorem wid_lt (i : grid0.Coords) : wid i < 32 := by
  have h0 : (i 0).val < 2 := (i 0).isLt
  have h1 : (i 1).val < 16 := (i 1).isLt
  unfold wid; omega

theorem tileOf_wid (i : grid0.Coords) : tileOf ⟨wid i, wid_lt i⟩ = i := by
  have h0 : (i 0).val < 2 := (i 0).isLt
  have h1 : (i 1).val < 16 := (i 1).isLt
  funext a
  match a with
  | 0 => exact Fin.ext (by show wid i % 2 = (i 0).val; unfold wid; omega)
  | 1 => exact Fin.ext (by show wid i / 2 = (i 1).val; unfold wid; omega)

/-- The call's result: row `w` holds the accumulators of subcore `w` after its 128 chunks. -/
def outV (fv : S4x96x512x512.Idx → Elt F .f32) (mv : S4x512x512.Idx → Elt F .f32) : S32x25x16.Idx → Elt F .f32 := fun y =>
  accN fv mv (tileOf (y 0)) 128 (y 1) (ix1 (y 2))

theorem off217_eq (i : grid0.Coords) : k0_off217 i = ![wid i, 0, 0] := by revert i; decide +kernel

theorem read_out (fv : S4x96x512x512.Idx → Elt F .f32) (mv : S4x512x512.Idx → Elt F .f32) (j : Fin 25) (l : Fin 16) :
    (oRow L).view.read (Elt F) (outV fv mv) (ix2 j l) = accN fv mv L 128 j (ix1 l) := by
  have hr : Shape.reshapeEquiv squeezes_S1x25x16_S25x16.numel_eq (ix2 j l) = (ix3 (⟨0, Nat.one_pos⟩ : Fin 1) j l : S1x25x16.Idx) := reshapeEquiv_ix2_1ab _ _ _
  show outV fv mv ((Rect.unit (s := S32x25x16) (k0_off217 L) S1x25x16.size (k0_off217_inb L)).idx (Shape.reshapeEquiv squeezes_S1x25x16_S25x16.numel_eq (ix2 j l))) = _
  rw [hr]
  have e : (Rect.unit (s := S32x25x16) (k0_off217 L) S1x25x16.size (k0_off217_inb L)).idx (ix3 (⟨0, Nat.one_pos⟩ : Fin 1) j l) = (ix3 (⟨wid L, wid_lt L⟩ : Fin 32) j l : S32x25x16.Idx) := by
    funext a
    refine Fin.ext ?_
    have h (a : Fin 3) := congrFun (off217_eq L) a
    fin_cases a
    · show k0_off217 L 0 + 1 * 0 = wid L; rw [h 0]; rfl
    · show k0_off217 L 1 + 1 * j.val = j.val; rw [h 1]; show 0 + 1 * j.val = j.val; omega
    · show k0_off217 L 2 + 1 * l.val = l.val; rw [h 2]; show 0 + 1 * l.val = l.val; omega
  rw [e]
  show accN fv mv (tileOf ⟨wid L, wid_lt L⟩) 128 j (ix1 l) = _
  rw [tileOf_wid]

abbrev allRows : List (Fin 25) := [24, 23, 22, 21, 20, 19, 18, 17, 16, 15, 14, 13, 12, 11, 10, 9, 8, 7, 6, 5, 4, 3, 2, 1, 0]

theorem row_out (fv : S4x96x512x512.Idx → Elt F .f32) (mv : S4x512x512.Idx → Elt F .f32) (fo : S25x16.Idx → Elt F .f32) (fr : S32x25x16.Idx → Elt F .f32) :
    ((oRow L).view.loc (V d (cV L) (jV L)) ↦[(oRow L).view.set]{fullShare} (oRow L).view.writes (Elt F) fr
        [⟨Rect.whole S25x16, ReadAs.same.apply ((obuf).view.read (Elt F) ((obuf).view.writes (Elt F) fo (allRows.map (rowPc (accN fv mv L 128)))))⟩] : sProp 𝕄)
      = (oRow L).view.loc (V d (cV L) (jV L)) ↦[(oRow L).view.set]{fullShare} outV fv mv := by
  rw [pointsTo_rep (Ix := HIx 1) (Name := ℕ) (U := UU) (Lvl := ℕ) (V d (cV L) (jV L)) (oRow L), pointsTo_rep (Ix := HIx 1) (Name := ℕ) (U := UU) (Lvl := ℕ) (V d (cV L) (jV L)) (oRow L) (outV fv mv),
    View.read_writes_whole]
  congr 2
  funext y
  obtain ⟨j, l, rfl⟩ : ∃ (j : Fin 25) (l : Fin 16), y = ix2 j l := ⟨y 0, y 1, by funext a; fin_cases a <;> rfl⟩
  rw [read_out]
  exact read_rows _ _ j l _ (by revert j; decide)

set_option maxHeartbeats 1000000 in
theorem kern (fv : S4x96x512x512.Idx → Elt F .f32) (mv : S4x512x512.Idx → Elt F .f32) (O : CellTallies nD τ sig (HIx 1)) (W : Waits sig (HIx 1)) (q q' : PosShare TreeShare)
    (f0 f1 : S2x12x8x256.Idx → Elt F .f32) (g0 g1 : S2x8x256.Idx → Elt F .f32) (fo : S25x16.Idx → Elt F .f32) (fr : S32x25x16.Idx → Elt F .f32) :
    (iprop(Transfers.MayWaits (V d (cV L) (jV L)) (none : HIx 1) O ∗ slot0 d L f0 g0 ∗ slot1 d L f1 g1 ∗ featPts d L q fv ∗ maskPts d L q' mv
        ∗ semVal (V d (cV L) (jV L), SemLoc.dma cc0_scratch3.sem) 0 ∗ semVal (V d (cV L) (jV L), SemLoc.dma cc0_scratch4.sem) 0
        ∗ semVal (V d (cV L) (jV L), SemLoc.dma cc0_scoped0.sem) 0
        ∗ ((obuf).view.loc (V d (cV L) (jV L)) ↦{fullShare} fo) ∗ ((oRow L).view.loc (V d (cV L) (jV L)) ↦[(oRow L).view.set]{fullShare} fr)
        ∗ owes (V d (cV L) (jV L)) O W) : sProp 𝕄)
      ⊢ wp frame (wpE (defs₀ (F := F)) 𝒱₀ (V d (cV L) (jV L)) none) Set.univ (cc0_kern (F := F) L (Memref.whole main_arg0_scv) (Memref.isWhole_whole _) (Memref.whole main_arg1_scv) (Memref.isWhole_whole _)
        (Memref.whole main_v0_scv) (Memref.isWhole_whole _) (Memref.whole cc0_scratch0) (Memref.isWhole_whole _) (Memref.whole cc0_scratch1) (Memref.isWhole_whole _)
        (Memref.whole cc0_scratch2) (Memref.isWhole_whole _) cc0_scratch3 cc0_scratch4 cc0_scoped0) fun _ => iprop(
        (∃ f g, slot0 d L f g) ∗ (∃ f g, slot1 d L f g)
        ∗ semVal (V d (cV L) (jV L), SemLoc.dma cc0_scratch3.sem) 0 ∗ semVal (V d (cV L) (jV L), SemLoc.dma cc0_scratch4.sem) 0
        ∗ semVal (V d (cV L) (jV L), SemLoc.dma cc0_scoped0.sem) 0
        ∗ (∃ f, (obuf).view.loc (V d (cV L) (jV L)) ↦{fullShare} f) ∗ ((oRow L).view.loc (V d (cV L) (jV L)) ↦[(oRow L).view.set]{fullShare} outV fv mv)
        ∗ ∃ W', ⌜∀ p ∈ W', p ∈ W ∨ p.2 = none⌝ ∗ owes (V d (cV L) (jV L)) O W') := by
  iintro ⟨Hmw, Hs0, Hs1, HF, HM, Hsem, Hsem1, Hsemr, Hob, Hr, HO⟩
  ihave Hs0' := (Entails.of_eq (slot_eq d L 0 (by decide) _ _)) $$ Hs0
  icases Hs0' with ⟨Hw, Hw0, Hw1, Hw2, Hw3, Hw4, Hw5, Hw6, Hw7, Hw8, Hw9, Hw10, Hw11⟩
  ihave HF' := (feat_srcs d L q (fun c => k0_off2 L (BitVec.ofNat 32 c.val)) (fun c => k0_off2_inb L c) fv) $$ HF
  icases HF' with ⟨HF, HF0, HF1, HF2, HF3, HF4, HF5, HF6, HF7, HF8, HF9, HF10, HF11⟩
  ihave HM' := (mask_src d L q' (k0_off1 L) (k0_off1_inb L) mv) $$ HM
  icases HM' with ⟨HM, HM0⟩
  imod (Transfers.batch_alloc' (Lvl := ℕ) (countersEmb (U := UU)) (V d (cV L) (jV L)) (default : HIx 1) ((mW 0 (inbMS Nat.zero_lt_two)).view.amount (SemLoc.dma (sig := sig) cc0_scratch3.sem))
    (deliv d L 0 Nat.zero_lt_two (k0_off1 L) (k0_off1_inb L) (fun c => k0_off2 L (BitVec.ofNat 32 c.val)) (fun c => k0_off2_inb L c) q'.right q fv mv)
    (sm := .dma cc0_scratch3.sem) (E := Set.univ)) $$ Hsem with HB0
  unfold cc0_kern
  sl_exec
  sl_for (inv d L fv mv O W) $$ [Hmw HB0 Hs1 Hsem1 HF HM HO]
  case region =>
    intro k acc
    exact outer_trip d L fv mv O W _ _ k acc
  · unfold inv
    isplitr
    · ipureintro; rfl
    isplitl [Hmw]; · iexact Hmw
    isplitl [HB0]
    · iexists _, _, _, _, _, _
      isplitr
      · ipureintro
        exact ⟨off1_eq L, fun c => off2_eq L c⟩
      · iexact HB0
    isplitl [Hs1]; · iexists _, _; iexact Hs1
    isplitl [Hsem1]; · iexact Hsem1
    isplitl [HF]; · iexists _; iexact HF
    isplitl [HM]; · iexists _; iexact HM
    iexists W
    isplitr
    · ipureintro; exact fun p hp => .inl hp
    · iexact HO
  iintro %acc HI
  unfold inv
  icases HI with ⟨%hacc, Hmw, ⟨%om, %hm, %of, %hf, %qm, %qf, %hoff, HB⟩, ⟨%f1', %g1', Hs1⟩, Hsem1, -, -, %W', %hW', HO⟩
  subst hacc
  sl_exec
  ihave Hs0 := (landed d L 0 (by decide) 0 om hm of hf hoff.1 hoff.2 fv mv) $$ [HB_dst0 HB_dst1 HB_dst2 HB_dst3 HB_dst4 HB_dst5 HB_dst6 HB_dst7 HB_dst8 HB_dst9 HB_dst10 HB_dst11 HB_dst12]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    isplitl [HB_dst11]; · iexact HB_dst11
    iexact HB_dst12
  iclear HB_src0 HB_src1 HB_src2 HB_src3 HB_src4 HB_src5 HB_src6 HB_src7 HB_src8 HB_src9 HB_src10 HB_src11 HB_src12
  sl_step
  isplitl [Hs0]; · iexists _, _; iexact Hs0
  isplitl [Hs1]; · iexists _, _; iexact Hs1
  isplitl [HB]; · iexact HB
  isplitl [Hsem1]; · iexact Hsem1
  isplitl [Hsemr]; · iexact Hsemr
  isplitl [Hob]; · iexists _; iexact Hob
  isplitl [Hr]
  · iapply (Entails.of_eq (row_out d L fv mv fo fr)); iexact Hr
  iexists _
  isplitr
  rotate_left
  · iexact HO
  · ipureintro
    repeat (refine waits_insert _ ?_)
    exact hW'

end Tile

end Cert.Proof.Kernel

end
-- ==== Proof.Launch.lean ====
/-
  The launch, from the tiles' side: what the call hands each vector subcore and takes back, and the task's obligation.
-/
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.Kernel
public import proofs.«01_k».proof.Proof.Tile

@[expose] public section

noncomputable section

namespace Cert.Proof.Kernel

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds library is the left factor. -/
abbrev EH : Emb UH (MT nD τ sig (HIx 1) (Elt F) ℕ UU ℕ) := embL

/-! ## The two slots are the two scratches -/

section Slots

variable (d : Dev nD) (L : grid0.Coords)

theorem mem_mS (s : ℕ) (h) (y : S2x8x256.Idx) : y ∈ (mS s h).view.set ↔ (y 0).val = s := by
  rw [show (mS s h).view.set = (Rect.unit (s := S2x8x256) ![s, 0, 0] S1x8x256.size h).set from View.set_slice_whole _ _]
  refine Rect.mem_set_unit.trans ⟨fun H => ?_, fun H a => ?_⟩
  · have h0 : s ≤ (y 0).val ∧ (y 0).val < s + 1 := H 0
    omega
  · have e1 : (y 1).val < 8 := (y 1).isLt
    have e2 : (y 2).val < 256 := (y 2).isLt
    fin_cases a
    · show s ≤ (y 0).val ∧ (y 0).val < s + 1; omega
    · show 0 ≤ (y 1).val ∧ (y 1).val < 0 + 8; omega
    · show 0 ≤ (y 2).val ∧ (y 2).val < 0 + 256; omega

def fSet (s : Fin 2) : Finset S2x12x8x256.Idx := (fS s.val (inbFS s.isLt)).view.set
def mSet (s : Fin 2) : Finset S2x8x256.Idx := (mS s.val (inbMS s.isLt)).view.set

theorem fSet_cover : (Finset.univ : Finset (Fin 2)).biUnion fSet = Finset.univ :=
  Finset.eq_univ_of_forall fun y => Finset.mem_biUnion.mpr ⟨y 0, Finset.mem_univ _, (mem_fS _ _ y).mpr rfl⟩
theorem mSet_cover : (Finset.univ : Finset (Fin 2)).biUnion mSet = Finset.univ :=
  Finset.eq_univ_of_forall fun y => Finset.mem_biUnion.mpr ⟨y 0, Finset.mem_univ _, (mem_mS _ _ y).mpr rfl⟩
theorem fSet_disjoint : ∀ s ∈ (Finset.univ : Finset (Fin 2)), ∀ t ∈ (Finset.univ : Finset (Fin 2)), s ≠ t → Disjoint (fSet s) (fSet t) :=
  fun _ _ _ _ hne => Finset.disjoint_left.mpr fun y h h' => hne (Fin.ext (((mem_fS _ _ y).mp h).symm.trans ((mem_fS _ _ y).mp h')))
theorem mSet_disjoint : ∀ s ∈ (Finset.univ : Finset (Fin 2)), ∀ t ∈ (Finset.univ : Finset (Fin 2)), s ≠ t → Disjoint (mSet s) (mSet t) :=
  fun _ _ _ _ hne => Finset.disjoint_left.mpr fun y h h' => hne (Fin.ext (((mem_mS _ _ y).mp h).symm.trans ((mem_mS _ _ y).mp h')))

abbrev fLoc : Loc nD τ sig := (V d (cV L) (jV L)).loc cc0_scratch0
abbrev gLoc : Loc nD τ sig := (V d (cV L) (jV L)).loc cc0_scratch1

/-- The scratches whole are their two slots. -/
theorem scr_slots (f : Buf (Elt F) (fLoc d L)) (g : Buf (Elt F) (gLoc d L)) :
    (iprop((fLoc d L ↦{fullShare} f) ∗ (gLoc d L ↦{fullShare} g)) : sProp 𝕄) ⊢ iprop(slot0 d L f g ∗ slot1 d L f g) := by
  have ef : (fLoc d L ↦{fullShare} f : sProp 𝕄) = iprop((fLoc d L ↦[fSet 0]{fullShare} f) ∗ (fLoc d L ↦[fSet 1]{fullShare} f)) := by
    refine Eq.trans ?_ (BI.bigSep_fin_two fun s => (fLoc d L ↦[fSet s]{fullShare} f : sProp 𝕄))
    rw [← pointsTo_biUnion Finset.univ (ℓ := fLoc d L) fSet fSet_disjoint, fSet_cover]
  have eg : (gLoc d L ↦{fullShare} g : sProp 𝕄) = iprop((gLoc d L ↦[mSet 0]{fullShare} g) ∗ (gLoc d L ↦[mSet 1]{fullShare} g)) := by
    refine Eq.trans ?_ (BI.bigSep_fin_two fun s => (gLoc d L ↦[mSet s]{fullShare} g : sProp 𝕄))
    rw [← pointsTo_biUnion Finset.univ (ℓ := gLoc d L) mSet mSet_disjoint, mSet_cover]
  rw [ef, eg]
  iintro ⟨⟨Hf0, Hf1⟩, Hg0, Hg1⟩
  isplitl [Hf0 Hg0]
  · isplitl [Hg0]; · iexact Hg0
    iexact Hf0
  · isplitl [Hg1]; · iexact Hg1
    iexact Hf1

/-- And back, each slot at its own contents. -/
theorem slots_scr (f0 f1 : Buf (Elt F) (fLoc d L)) (g0 g1 : Buf (Elt F) (gLoc d L)) :
    (iprop(slot0 d L f0 g0 ∗ slot1 d L f1 g1) : sProp 𝕄) ⊢ iprop((∃ f, fLoc d L ↦{fullShare} f) ∗ (∃ g, gLoc d L ↦{fullShare} g)) := by
  have jf : (iprop((fLoc d L ↦[fSet 0]{fullShare} f0) ∗ (fLoc d L ↦[fSet 1]{fullShare} f1)) : sProp 𝕄) ⊢ iprop(∃ f, fLoc d L ↦{fullShare} f) := by
    refine (Entails.of_eq (BI.bigSep_fin_two fun s => (fLoc d L ↦[fSet s]{fullShare} (if s = 0 then f0 else f1) : sProp 𝕄)).symm).trans ?_
    refine (pointsTo_biUnion_join (ℓ := fLoc d L) (q := fullShare) (Val := Elt F) Finset.univ fSet (fun s => if s = 0 then f0 else f1) f0 fSet_disjoint).trans ?_
    iintro ⟨%f, -, H⟩
    rw [fSet_cover]
    iexists f; iexact H
  have jg : (iprop((gLoc d L ↦[mSet 0]{fullShare} g0) ∗ (gLoc d L ↦[mSet 1]{fullShare} g1)) : sProp 𝕄) ⊢ iprop(∃ g, gLoc d L ↦{fullShare} g) := by
    refine (Entails.of_eq (BI.bigSep_fin_two fun s => (gLoc d L ↦[mSet s]{fullShare} (if s = 0 then g0 else g1) : sProp 𝕄)).symm).trans ?_
    refine (pointsTo_biUnion_join (ℓ := gLoc d L) (q := fullShare) (Val := Elt F) Finset.univ mSet (fun s => if s = 0 then g0 else g1) g0 mSet_disjoint).trans ?_
    iintro ⟨%f, -, H⟩
    rw [mSet_cover]
    iexists f; iexact H
  iintro ⟨⟨Hg0, Hf0⟩, Hg1, Hf1⟩
  isplitl [Hf0 Hf1]
  · iapply jf
    isplitl [Hf0]; · iexact Hf0
    iexact Hf1
  · iapply jg
    isplitl [Hg0]; · iexact Hg0
    iexact Hg1

end Slots

/-! ## The rows of the result -/

/-- Row `w` of the result. -/
def oSet (w : Fin 32) : Finset S32x25x16.Idx := (oRow (tileOf w)).view.set

theorem wid_tileOf (w : Fin 32) : wid (tileOf w) = w.val := by
  have := w.isLt
  show 2 * (w.val / 2) + w.val % 2 = w.val
  omega

theorem mem_oSet (w : Fin 32) (y : S32x25x16.Idx) : y ∈ oSet w ↔ y 0 = w := by
  have hs : oSet w = (Rect.unit (s := S32x25x16) (k0_off217 (tileOf w)) S1x25x16.size (k0_off217_inb (tileOf w))).set :=
    (View.set_reshape _ _).trans (View.set_slice_whole _ _)
  have h (a : Fin 3) : k0_off217 (tileOf w) a = ![w.val, 0, 0] a := by
    rw [congrFun (off217_eq (tileOf w)) a, wid_tileOf]
  rw [hs]
  refine Rect.mem_set_unit.trans ⟨fun H => ?_, fun H a => ?_⟩
  · have h0 : k0_off217 (tileOf w) 0 ≤ (y 0).val ∧ (y 0).val < k0_off217 (tileOf w) 0 + 1 := H 0
    rw [h 0] at h0
    have h1 : w.val ≤ (y 0).val ∧ (y 0).val < w.val + 1 := h0
    exact Fin.ext (by omega)
  · have e0 : (y 0).val = w.val := congrArg Fin.val H
    have e1 : (y 1).val < 25 := (y 1).isLt
    have e2 : (y 2).val < 16 := (y 2).isLt
    rw [h a]
    fin_cases a
    · show w.val ≤ (y 0).val ∧ (y 0).val < w.val + 1; omega
    · show 0 ≤ (y 1).val ∧ (y 1).val < 0 + 25; omega
    · show 0 ≤ (y 2).val ∧ (y 2).val < 0 + 16; omega

theorem oSet_cover : (Finset.univ : Finset (Fin 32)).biUnion oSet = Finset.univ :=
  Finset.eq_univ_of_forall fun y => Finset.mem_biUnion.mpr ⟨y 0, Finset.mem_univ _, (mem_oSet _ y).mpr rfl⟩
theorem oSet_disjoint : ∀ s ∈ (Finset.univ : Finset (Fin 32)), ∀ t ∈ (Finset.univ : Finset (Fin 32)), s ≠ t → Disjoint (oSet s) (oSet t) :=
  fun _ _ _ _ hne => Finset.disjoint_left.mpr fun y h h' => hne (((mem_oSet _ y).mp h).symm.trans ((mem_oSet _ y).mp h'))

/-! ## What the call hands over and takes back -/

abbrev aLoc (d : Dev nD) : Loc nD τ sig := (SparseCore.T d).loc main_arg0
abbrev mLoc (d : Dev nD) : Loc nD τ sig := (SparseCore.T d).loc main_arg1
abbrev oLoc (d : Dev nD) : Loc nD τ sig := (SparseCore.T d).loc main_v0

variable (m : (ℓ : Loc nD τ sig) → Buf (Elt F) ℓ) (ρ : Dev nD → PrngReg)

/-- Of the half share of an input that is lent out, the part of subcore `w`. -/
abbrev shr (w : Fin 32) : PosShare TreeShare := leaf 5 fullShare.right w

/-- What subcore `w` is handed: its shares of the inputs, and its row. -/
def goW (d : Dev nD) (w : Fin 32) : sProp 𝕄 :=
  iprop((aLoc d ↦{shr w} m (aLoc d)) ∗ (mLoc d ↦{shr w} m (mLoc d)) ∗ (oLoc d ↦[oSet w]{fullShare} m (oLoc d)))

variable [FloatOps F]

/-- What it hands back: its row, filled. -/
def tdW (d : Dev nD) (w : Fin 32) : sProp 𝕄 := iprop(oLoc d ↦[oSet w]{fullShare} outV (m (aLoc d)) (m (mLoc d)))

instance goW_storable (d : Dev nD) (w : Fin 32) : BI.Storable (upEmb : UEmb _ 𝕄) (goW m d w) := by unfold goW; infer_instance
instance tdW_storable (d : Dev nD) (w : Fin 32) : BI.Storable (upEmb : UEmb _ 𝕄) (tdW m d w) := by unfold tdW; infer_instance

/-- Subcore `i` of SparseCore `c`, numbered. -/
def wOf (c i : ℕ) : Fin 32 := ⟨(2 * i + c) % 32, Nat.mod_lt _ (by decide)⟩

theorem wOf_wid (L : grid0.Coords) : wOf (L 0).val (L 1).val = ⟨wid L, wid_lt L⟩ := by
  have := wid_lt L
  exact Fin.ext (Nat.mod_eq_of_lt (by show 2 * (L 1).val + (L 0).val < 32; exact this))

/-- A SparseCore is handed, and hands back, what its sixteen subcores are and do. -/
def P : (K (F := F)).Pay (nD := nD) (Val := Elt F) (Name := ℕ) (U := UU) where
  st := fun _ d c => bigSep (Finset.univ : Finset (Fin 16)) fun i => goW m d (wOf c.val i.val)
  dn := fun _ d c => bigSep (Finset.univ : Finset (Fin 16)) fun i => tdW m d (wOf c.val i.val)
  go := fun _ d c i => goW m d (wOf c.val i.val)
  td := fun _ d c i => tdW m d (wOf c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem vecSplit : (K (F := F)).VecSplit' (P m) 0 := by
  intro d c
  show (bigSep (Finset.univ : Finset (Fin 16)) fun i => goW m d (wOf c.val i.val)) ⊢ |={Set.univ}=> iprop(
    (bigSep (Finset.univ : Finset (Fin 16)) fun i => goW m d (wOf c.val i.val))
      ∗ ((bigSep (Finset.univ : Finset (Fin 16)) fun i => tdW m d (wOf c.val i.val)) -∗ bigSep (Finset.univ : Finset (Fin 16)) fun i => tdW m d (wOf c.val i.val)))
  iintro H; imodintro
  isplitl [H]; · iexact H
  iintro H; iexact H

/-! ## The task -/

section Task

variable (d : Dev nD) (L : grid0.Coords)

abbrev cell3 : GSem nD τ sig := (V d (cV L) (jV L), .dma cc0_scratch3.sem)
abbrev cell4 : GSem nD τ sig := (V d (cV L) (jV L), .dma cc0_scratch4.sem)
abbrev cellR : GSem nD τ sig := (V d (cV L) (jV L), .dma cc0_scoped0.sem)

theorem ownSems0_V :
    (ownSems0 (V d (cV L) (jV L)) : sProp 𝕄)
      = iprop(semVal (cell3 d L) 0 ∗ semVal (cell4 d L) 0 ∗ semVal (cellR d L) 0
          ∗ bigSep ((((ownCells (V d (cV L) (jV L))).erase (cell3 d L)).erase (cell4 d L)).erase (cellR d L)) fun g => semVal g 0) := by
  unfold SparseCore.Cfg.ownSems0
  rw [SparseCore.bigSep_erase' ((mem_ownCells (g := cell3 d L)).mpr ⟨rfl, by
      show (SemLoc.dma cc0_scratch3.sem : SemLoc sig).isScoped .scVector = true; decide⟩),
    SparseCore.bigSep_erase' (Finset.mem_erase.mpr ⟨by simp [cell3, cell4]; decide, (mem_ownCells (g := cell4 d L)).mpr ⟨rfl, by
      show (SemLoc.dma cc0_scratch4.sem : SemLoc sig).isScoped .scVector = true; decide⟩⟩),
    SparseCore.bigSep_erase' (Finset.mem_erase.mpr ⟨by simp [cell4, cellR]; decide, Finset.mem_erase.mpr ⟨by simp [cell3, cellR]; decide,
      (mem_ownCells (g := cellR d L)).mpr ⟨rfl, by show (SemLoc.dma cc0_scoped0.sem : SemLoc sig).isScoped .scVector = true; decide⟩⟩⟩)]

abbrev rf (b : Ref sig .scVector) : DevRef τ sig := (Proc.scVector (cV L) (jV L)).devRef b

/-- The three scratches are among the subcore's own buffers. -/
theorem ownBufs_V :
    (ownBufs (V d (cV L) (jV L)) : sProp 𝕄)
      = iprop((∃ f, fLoc d L ↦{fullShare} f) ∗ (∃ g, gLoc d L ↦{fullShare} g) ∗ (∃ f, (V d (cV L) (jV L)).loc cc0_scratch2 ↦{fullShare} f)
          ∗ bigSep ((((ownRefs (τ := τ) (.scVector (cV L) (jV L))).erase (rf L cc0_scratch0)).erase (rf L cc0_scratch1)).erase (rf L cc0_scratch2))
              fun b => iprop(∃ f, ((d, b) : Loc nD τ sig) ↦{fullShare} f)) := by
  have hn {b b' : Ref sig .scVector} (h : b ≠ b') : rf L b ≠ rf L b' := fun e => h (Proc.devRef_injective _ e)
  unfold SparseCore.Cfg.ownBufs
  refine (SparseCore.bigSep_erase' (SparseCore.Cfg.mem_ownRefs_of_owner (p := Proc.scVector (cV L) (jV L)) (b := rf L cc0_scratch0) rfl)).trans ?_
  rw [SparseCore.bigSep_erase' (Finset.mem_erase.mpr ⟨hn (b := cc0_scratch1) (b' := cc0_scratch0) (by decide), SparseCore.Cfg.mem_ownRefs_of_owner (p := Proc.scVector (cV L) (jV L)) (b := rf L cc0_scratch1) rfl⟩),
    SparseCore.bigSep_erase' (Finset.mem_erase.mpr ⟨hn (b := cc0_scratch2) (b' := cc0_scratch1) (by decide),
      Finset.mem_erase.mpr ⟨hn (b := cc0_scratch2) (b' := cc0_scratch0) (by decide), SparseCore.Cfg.mem_ownRefs_of_owner (p := Proc.scVector (cV L) (jV L)) (b := rf L cc0_scratch2) rfl⟩⟩)]

theorem pts_row (f : Buf (Elt F) (oLoc d)) :
    ((oRow L).view.loc (V d (cV L) (jV L)) ↦[(oRow L).view.set]{fullShare} f : sProp 𝕄) = oLoc d ↦[oSet ⟨wid L, wid_lt L⟩]{fullShare} f := by
  unfold oSet
  rw [tileOf_wid]

theorem tile_body (hF : (K (F := F)).Facts) (O : CellTallies nD τ sig (HIx 1)) (W : Waits sig (HIx 1)) (hO : ∀ g, O g none = 0) :
    iprop(levAts (K (F := F)).L (K (F := F)).lev ∗ emp ∗ goW m d ⟨wid L, wid_lt L⟩
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_kern (F := F) L (Memref.whole main_arg0_scv) (Memref.isWhole_whole _) (Memref.whole main_arg1_scv) (Memref.isWhole_whole _)
            (Memref.whole main_v0_scv) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scoped0)
          fun _ => iprop(tdW m d ⟨wid L, wid_lt L⟩ ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goW tdW
  iintro ⟨#Hlv, -, ⟨Ha, Hm, Ho⟩, ⟨⟨%f, Hf⟩, ⟨%g, Hg⟩, ⟨%fo, Hob⟩, Hbufs⟩, ⟨Hs3, Hs4, HsR, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave Hslots := (scr_slots d L f g) $$ [Hf Hg]
  · isplitl [Hf]; · iexact Hf
    iexact Hg
  icases Hslots with ⟨H0, H1⟩
  ihave Ho' := (Entails.of_eq (pts_row (F := F) d L _).symm) $$ Ho
  iapply (wp_wand_r frame _ _)
  isplitl [Hmw H0 H1 Ha Hm Hs3 Hs4 HsR Hob Ho' HO]
  · iapply (kern d L (m (aLoc d)) (m (mLoc d)) O W (shr ⟨wid L, wid_lt L⟩) (shr ⟨wid L, wid_lt L⟩) f f g g fo (m (oLoc d)))
    isplitl [Hmw]; · iexact Hmw
    isplitl [H0]; · iexact H0
    isplitl [H1]; · iexact H1
    isplitl [Ha]; · iexact Ha
    isplitl [Hm]; · iexact Hm
    isplitl [Hs3]; · iexact Hs3
    isplitl [Hs4]; · iexact Hs4
    isplitl [HsR]; · iexact HsR
    isplitl [Hob]; · iexact Hob
    isplitl [Ho']; · iexact Ho'
    iexact HO
  iintro %_ ⟨⟨%f0, %g0, H0⟩, ⟨%f1, %g1, H1⟩, Hs3, Hs4, HsR, ⟨%fo', Hob⟩, Ho, HO⟩
  ihave Ho' := (Entails.of_eq (pts_row (F := F) d L _)) $$ Ho
  ihave Hscr := (slots_scr d L f0 f1 g0 g1) $$ [H0 H1]
  · isplitl [H0]; · iexact H0
    iexact H1
  icases Hscr with ⟨Hf, Hg⟩
  isplitl [Ho']; · iexact Ho'
  isplitl [Hf Hg Hob Hbufs]
  · isplitl [Hf]; · iexact Hf
    isplitl [Hg]; · iexact Hg
    isplitl [Hob]; · iexists _; iexact Hob
    iexact Hbufs
  isplitl [Hs3 Hs4 HsR Hsems]
  · isplitl [Hs3]; · iexact Hs3
    isplitl [Hs4]; · iexact Hs4
    isplitl [HsR]; · iexact HsR
    iexact Hsems
  iexact HO

/-! ## The obligation -/

theorem defs₀_vector (c : Fin τ.nSC) (s : Fin τ.nSub) :
    defs₀ (F := F) (.scVector c s) 0 ()
      = SparseCore.onTile hcore0 hsub0 (fun c s => cc0_kern (F := F) (mkC c s) (Memref.whole main_arg0_scv) (Memref.isWhole_whole _) (Memref.whole main_arg1_scv) (Memref.isWhole_whole _)
            (Memref.whole main_v0_scv) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hg : (P m).go 0 d c i = goW m d ⟨wid (mkC ⟨_, hci.1⟩ ⟨_, hci.2⟩), wid_lt _⟩ := congrArg (goW m d) (wOf_wid (mkC ⟨_, hci.1⟩ ⟨_, hci.2⟩))
  have ht : (P m).td 0 d c i = tdW m d ⟨wid (mkC ⟨_, hci.1⟩ ⟨_, hci.2⟩), wid_lt _⟩ := congrArg (tdW m d) (wOf_wid (mkC ⟨_, hci.1⟩ ⟨_, hci.2⟩))
  rw [hg, ht]
  exact (tile_body m d (mkC ⟨_, hci.1⟩ ⟨_, hci.2⟩) hF O W hO).trans (wp_mono frame _ _ fun _ => obl_post)

end Task

end Cert.Proof.Kernel

end
-- ==== Proof.Host.lean ====
/-
  @main on the TensorCore: the call, the operations after it, and the run of the whole program.
-/
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.Kernel
public import Idealize.ShloMosaic.Lib.Pipeline.Frame
public import proofs.«01_k».proof.Proof.Launch

@[expose] public section

noncomputable section

namespace Cert.Proof.Kernel

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.ShloMosaic.ShareLeaves (leaf pointsTo_leaves)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F]

/-! ## The operations after the call -/

/-- The two prototypes, one above the other. -/
def stack2 : (⟨S1x96, .f32⟩ : BufTy).Contents (Elt F) → (⟨S1x96, .f32⟩ : BufTy).Contents (Elt F) → (⟨S2x96, .f32⟩ : BufTy).Contents (Elt F) :=
  fun a b => concatenate S2x96 0 [⟨S1x96, a⟩, ⟨S1x96, b⟩] concatenates_S1x96_S1x96_S2x96_d0

/-- @main's operations after the call, in order. -/
abbrev ops : List (HloOp τ sig (Elt F)) :=
  [ nullary main_cst (constant S_ .f32 0x00000000#32),
    binary main_v0 main_cst main_v1 ((fun x v => Host.reduceAdd x v reducesTo_S32x25x16_S32x25_d2 h_S_) : (⟨S32x25x16, .f32⟩ : BufTy).Contents (Elt F) → (⟨S_, .f32⟩ : BufTy).Contents (Elt F) → (⟨S32x25, .f32⟩ : BufTy).Contents (Elt F)),
    reshape main_v1 main_v2 (rfl : (.f32 : EltTy) = .f32) shapeCasts_S32x25_S4x8x25,
    unary main_v2 main_v3 ((extractStridedSlice S4x1x1 ![0, 0, 0] · slices_S4x8x25_S4x1x1_0_0_0) : (⟨S4x8x25, .f32⟩ : BufTy).Contents (Elt F) → (⟨S4x1x1, .f32⟩ : BufTy).Contents (Elt F)),
    reshape main_v3 main_v4 (rfl : (.f32 : EltTy) = .f32) shapeCasts_S4x1x1_S4,
    nullary main_cst_0 (constant S_ .f32 0x00000000#32),
    binary main_v4 main_cst_0 main_v5 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_1 (constant S_ .f32 0x49800000#32),
    binary main_cst_1 main_v5 main_v6 (subf : (⟨S_, .f32⟩ : BufTy).Contents (Elt F) → (⟨S_, .f32⟩ : BufTy).Contents (Elt F) → (⟨S_, .f32⟩ : BufTy).Contents (Elt F)),
    unary main_v2 main_v7 ((extractStridedSlice S4x8x12 ![0, 0, 1] · slices_S4x8x25_S4x8x12_0_0_1) : (⟨S4x8x25, .f32⟩ : BufTy).Contents (Elt F) → (⟨S4x8x12, .f32⟩ : BufTy).Contents (Elt F)),
    reshape main_v7 main_v8 (rfl : (.f32 : EltTy) = .f32) shapeCasts_S4x8x12_S4x96,
    nullary main_cst_2 (constant S_ .f32 0x00000000#32),
    binary main_v8 main_cst_2 main_v9 ((fun x v => Host.reduceAdd x v reducesTo_S4x96_S96_d0 h_S_) : (⟨S4x96, .f32⟩ : BufTy).Contents (Elt F) → (⟨S_, .f32⟩ : BufTy).Contents (Elt F) → (⟨S96, .f32⟩ : BufTy).Contents (Elt F)),
    unary main_v2 main_v10 ((extractStridedSlice S4x8x12 ![0, 0, 13] · slices_S4x8x25_S4x8x12_0_0_13) : (⟨S4x8x25, .f32⟩ : BufTy).Contents (Elt F) → (⟨S4x8x12, .f32⟩ : BufTy).Contents (Elt F)),
    reshape main_v10 main_v11 (rfl : (.f32 : EltTy) = .f32) shapeCasts_S4x8x12_S4x96,
    nullary main_cst_3 (constant S_ .f32 0x00000000#32),
    binary main_v11 main_cst_3 main_v12 ((fun x v => Host.reduceAdd x v reducesTo_S4x96_S96_d0 h_S_) : (⟨S4x96, .f32⟩ : BufTy).Contents (Elt F) → (⟨S_, .f32⟩ : BufTy).Contents (Elt F) → (⟨S96, .f32⟩ : BufTy).Contents (Elt F)),
    nullary main_cst_4 (constant S_ .f32 0x3F800000#32),
    binary main_v5 main_cst_4 main_v13 (maximumf : (⟨S_, .f32⟩ : BufTy).Contents (Elt F) → (⟨S_, .f32⟩ : BufTy).Contents (Elt F) → (⟨S_, .f32⟩ : BufTy).Contents (Elt F)),
    unary main_v13 main_v14 (broadcastInDim S96 ![] bcast_S_S96 : (⟨S_, .f32⟩ : BufTy).Contents (Elt F) → (⟨S96, .f32⟩ : BufTy).Contents (Elt F)),
    binary main_v9 main_v14 main_v15 (Host.divf : (⟨S96, .f32⟩ : BufTy).Contents (Elt F) → (⟨S96, .f32⟩ : BufTy).Contents (Elt F) → (⟨S96, .f32⟩ : BufTy).Contents (Elt F)),
    binary main_v12 main_v9 main_v16 (subf : (⟨S96, .f32⟩ : BufTy).Contents (Elt F) → (⟨S96, .f32⟩ : BufTy).Contents (Elt F) → (⟨S96, .f32⟩ : BufTy).Contents (Elt F)),
    nullary main_cst_5 (constant S_ .f32 0x3F800000#32),
    binary main_v6 main_cst_5 main_v17 (maximumf : (⟨S_, .f32⟩ : BufTy).Contents (Elt F) → (⟨S_, .f32⟩ : BufTy).Contents (Elt F) → (⟨S_, .f32⟩ : BufTy).Contents (Elt F)),
    unary main_v17 main_v18 (broadcastInDim S96 ![] bcast_S_S96 : (⟨S_, .f32⟩ : BufTy).Contents (Elt F) → (⟨S96, .f32⟩ : BufTy).Contents (Elt F)),
    binary main_v16 main_v18 main_v19 (Host.divf : (⟨S96, .f32⟩ : BufTy).Contents (Elt F) → (⟨S96, .f32⟩ : BufTy).Contents (Elt F) → (⟨S96, .f32⟩ : BufTy).Contents (Elt F)),
    nullary main_c (constantI S_ 32 0#32),
    binary main_arg4 main_c main_v20 (cmpi .eq : (⟨S_, .i32⟩ : BufTy).Contents (Elt F) → (⟨S_, .i32⟩ : BufTy).Contents (Elt F) → (⟨S_, .i1⟩ : BufTy).Contents (Elt F)),
    nullary main_cst_6 (constant S_ .f32 0x3F666666#32),
    unary main_cst_6 main_v21 (broadcastInDim S96 ![] bcast_S_S96 : (⟨S_, .f32⟩ : BufTy).Contents (Elt F) → (⟨S96, .f32⟩ : BufTy).Contents (Elt F)),
    binary main_arg2 main_v21 main_v22 (mulf : (⟨S96, .f32⟩ : BufTy).Contents (Elt F) → (⟨S96, .f32⟩ : BufTy).Contents (Elt F) → (⟨S96, .f32⟩ : BufTy).Contents (Elt F)),
    nullary main_cst_7 (constant S_ .f32 0x3DCCCCCD#32),
    unary main_cst_7 main_v23 (broadcastInDim S96 ![] bcast_S_S96 : (⟨S_, .f32⟩ : BufTy).Contents (Elt F) → (⟨S96, .f32⟩ : BufTy).Contents (Elt F)),
    binary main_v15 main_v23 main_v24 (mulf : (⟨S96, .f32⟩ : BufTy).Contents (Elt F) → (⟨S96, .f32⟩ : BufTy).Contents (Elt F) → (⟨S96, .f32⟩ : BufTy).Contents (Elt F)),
    binary main_v22 main_v24 main_v25 (addf : (⟨S96, .f32⟩ : BufTy).Contents (Elt F) → (⟨S96, .f32⟩ : BufTy).Contents (Elt F) → (⟨S96, .f32⟩ : BufTy).Contents (Elt F)),
    TRef.ternary (TRef.of (T := ⟨S_, .i1⟩) main_v20) (TRef.of (T := ⟨S96, .f32⟩) main_v15) (TRef.of (T := ⟨S96, .f32⟩) main_v25) (TRef.of (T := ⟨S96, .f32⟩) main_v26) (fun p a b => select (broadcastInDim S96 ![] bcast_S_S96 p) a b),
    nullary main_cst_8 (constant S_ .f32 0x00000000#32),
    binary main_v5 main_cst_8 main_v27 (cmpf .ogt : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v27) (TRef.of (T := ⟨S96, .f32⟩) main_v26) (TRef.of (T := ⟨S96, .f32⟩) main_arg2) (TRef.of (T := ⟨S96, .f32⟩) main_v28) (fun p a b => select (broadcastInDim S96 ![] bcast_S_S96 p) a b),
    nullary main_c_9 (constantI S_ 32 0#32),
    binary main_arg5 main_c_9 main_v29 (cmpi .eq : (⟨S_, .i32⟩ : BufTy).Contents (Elt F) → (⟨S_, .i32⟩ : BufTy).Contents (Elt F) → (⟨S_, .i1⟩ : BufTy).Contents (Elt F)),
    nullary main_cst_10 (constant S_ .f32 0x3F666666#32),
    unary main_cst_10 main_v30 (broadcastInDim S96 ![] bcast_S_S96 : (⟨S_, .f32⟩ : BufTy).Contents (Elt F) → (⟨S96, .f32⟩ : BufTy).Contents (Elt F)),
    binary main_arg3 main_v30 main_v31 (mulf : (⟨S96, .f32⟩ : BufTy).Contents (Elt F) → (⟨S96, .f32⟩ : BufTy).Contents (Elt F) → (⟨S96, .f32⟩ : BufTy).Contents (Elt F)),
    nullary main_cst_11 (constant S_ .f32 0x3DCCCCCD#32),
    unary main_cst_11 main_v32 (broadcastInDim S96 ![] bcast_S_S96 : (⟨S_, .f32⟩ : BufTy).Contents (Elt F) → (⟨S96, .f32⟩ : BufTy).Contents (Elt F)),
    binary main_v19 main_v32 main_v33 (mulf : (⟨S96, .f32⟩ : BufTy).Contents (Elt F) → (⟨S96, .f32⟩ : BufTy).Contents (Elt F) → (⟨S96, .f32⟩ : BufTy).Contents (Elt F)),
    binary main_v31 main_v33 main_v34 (addf : (⟨S96, .f32⟩ : BufTy).Contents (Elt F) → (⟨S96, .f32⟩ : BufTy).Contents (Elt F) → (⟨S96, .f32⟩ : BufTy).Contents (Elt F)),
    TRef.ternary (TRef.of (T := ⟨S_, .i1⟩) main_v29) (TRef.of (T := ⟨S96, .f32⟩) main_v19) (TRef.of (T := ⟨S96, .f32⟩) main_v34) (TRef.of (T := ⟨S96, .f32⟩) main_v35) (fun p a b => select (broadcastInDim S96 ![] bcast_S_S96 p) a b),
    nullary main_cst_12 (constant S_ .f32 0x00000000#32),
    binary main_v6 main_cst_12 main_v36 (cmpf .ogt : (⟨S_, .f32⟩ : BufTy).Contents (Elt F) → (⟨S_, .f32⟩ : BufTy).Contents (Elt F) → (⟨S_, .i1⟩ : BufTy).Contents (Elt F)),
    TRef.ternary (TRef.of (T := ⟨S_, .i1⟩) main_v36) (TRef.of (T := ⟨S96, .f32⟩) main_v35) (TRef.of (T := ⟨S96, .f32⟩) main_arg3) (TRef.of (T := ⟨S96, .f32⟩) main_v37) (fun p a b => select (broadcastInDim S96 ![] bcast_S_S96 p) a b),
    unary main_v28 main_v38 (broadcastInDim S1x96 ![1] bcast_S96_S1x96_1 : (⟨S96, .f32⟩ : BufTy).Contents (Elt F) → (⟨S1x96, .f32⟩ : BufTy).Contents (Elt F)),
    unary main_v37 main_v39 (broadcastInDim S1x96 ![1] bcast_S96_S1x96_1 : (⟨S96, .f32⟩ : BufTy).Contents (Elt F) → (⟨S1x96, .f32⟩ : BufTy).Contents (Elt F)),
    binary main_v38 main_v39 main_v40 stack2 ]

theorem main_eq (d : Dev nD) : Cert.Kernel.main (F := F) d = ((K (F := F)).run d 0 >>= fun _ => (seq ops >>= fun u => Pure.pure u)) := rfl

set_option maxRecDepth 8192 in
theorem ops_sub : (ops : List (HloOp τ sig (Elt F))).Forall fun op => op.bufs ⊆ tcRefs τ sig :=
  ⟨nullary_bufs_sub .., binary_bufs_sub .., reshape_bufs_sub .., unary_bufs_sub .., reshape_bufs_sub .., nullary_bufs_sub .., binary_bufs_sub .., nullary_bufs_sub .., binary_bufs_sub .., unary_bufs_sub .., reshape_bufs_sub .., nullary_bufs_sub .., binary_bufs_sub .., unary_bufs_sub .., reshape_bufs_sub .., nullary_bufs_sub .., binary_bufs_sub .., nullary_bufs_sub .., binary_bufs_sub .., unary_bufs_sub .., binary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., binary_bufs_sub .., ternary_bufs_sub .., nullary_bufs_sub .., binary_bufs_sub .., ternary_bufs_sub .., nullary_bufs_sub .., binary_bufs_sub .., nullary_bufs_sub .., unary_bufs_sub .., binary_bufs_sub .., nullary_bufs_sub .., unary_bufs_sub .., binary_bufs_sub .., binary_bufs_sub .., ternary_bufs_sub .., nullary_bufs_sub .., binary_bufs_sub .., ternary_bufs_sub .., unary_bufs_sub .., unary_bufs_sub .., binary_bufs_sub ..⟩

theorem ops_fresh : ∀ op ∈ (ops : List (HloOp τ sig (Elt F))), op.fresh = ∅ := by
  intro _ h; (repeat (cases h with | head => rfl | tail _ h => ?_)); exact nomatch h

abbrev a' : DevRef τ sig := Proc.devRef .tc (main_arg0 : Ref sig .tc)
abbrev m' : DevRef τ sig := Proc.devRef .tc (main_arg1 : Ref sig .tc)
abbrev o' : DevRef τ sig := Proc.devRef .tc (main_v0 : Ref sig .tc)

/-- An operation that neither names the features nor the mask. -/
abbrev Off (op : HloOp τ sig (Elt F)) : Prop := a' ∉ op.bufs ∧ m' ∉ op.bufs

abbrev Else (x : Ref sig .tc) : Prop := main_arg0 ≠ x ∧ main_arg1 ≠ x

theorem a_ne {x : Ref sig .tc} (h : Else x) : a' ≠ Proc.devRef (τ := τ) .tc x := fun e => h.1 (Proc.devRef_injective _ e)
theorem m_ne {x : Ref sig .tc} (h : Else x) : m' ≠ Proc.devRef (τ := τ) .tc x := fun e => h.2 (Proc.devRef_injective _ e)

theorem nullary_off {y : Ref sig .tc} {v : y.ty.Contents (Elt F)} {hy} (h : Else y) : Off (nullary (τ := τ) y v hy) := by
  show a' ∉ ({Proc.devRef .tc y} : Finset (DevRef τ sig)) ∧ m' ∉ ({Proc.devRef .tc y} : Finset (DevRef τ sig))
  simp only [Finset.mem_singleton, a_ne h, m_ne h, not_false_eq_true, and_self]
theorem unary_off {x y : Ref sig .tc} {f : x.ty.Contents (Elt F) → y.ty.Contents (Elt F)} {hx hy} (h : Else x ∧ Else y) : Off (unary (τ := τ) x y f hx hy) := by
  unfold Off
  rw [unary_bufs]
  simp only [Finset.mem_insert, Finset.mem_singleton, a_ne h.1, m_ne h.1, a_ne h.2, m_ne h.2, or_self, not_false_eq_true, and_self]
theorem reshape_off {x y : Ref sig .tc} {he hn hx hy} (h : Else x ∧ Else y) : Off (reshape (τ := τ) (Val := Elt F) x y he hn hx hy) := by
  unfold Off
  rw [reshape_bufs]
  simp only [Finset.mem_insert, Finset.mem_singleton, a_ne h.1, m_ne h.1, a_ne h.2, m_ne h.2, or_self, not_false_eq_true, and_self]
theorem binary_off {x z y : Ref sig .tc} {f : x.ty.Contents (Elt F) → z.ty.Contents (Elt F) → y.ty.Contents (Elt F)} {hx hz hy}
    (h : Else x ∧ Else z ∧ Else y) : Off (binary (τ := τ) x z y f hx hz hy) := by
  unfold Off
  rw [binary_bufs]
  simp only [Finset.mem_insert, Finset.mem_singleton, a_ne h.1, m_ne h.1, a_ne h.2.1, m_ne h.2.1, a_ne h.2.2, m_ne h.2.2, or_self, not_false_eq_true, and_self]
theorem ternary_off {x z w y : Ref sig .tc} {f : x.ty.Contents (Elt F) → z.ty.Contents (Elt F) → w.ty.Contents (Elt F) → y.ty.Contents (Elt F)} {hx hz hw hy}
    (h : Else x ∧ Else z ∧ Else w ∧ Else y) : Off (ternary (τ := τ) x z w y f hx hz hw hy) := by
  unfold Off
  rw [ternary_bufs]
  simp only [Finset.mem_insert, Finset.mem_singleton, a_ne h.1, m_ne h.1, a_ne h.2.1, m_ne h.2.1, a_ne h.2.2.1, m_ne h.2.2.1, a_ne h.2.2.2, m_ne h.2.2.2, or_self, not_false_eq_true, and_self]

set_option maxRecDepth 8192 in
theorem ops_off : (ops : List (HloOp τ sig (Elt F))).Forall Off :=
  ⟨nullary_off (by decide), binary_off (by decide), reshape_off (by decide), unary_off (by decide), reshape_off (by decide), nullary_off (by decide), binary_off (by decide), nullary_off (by decide), binary_off (by decide), unary_off (by decide), reshape_off (by decide), nullary_off (by decide), binary_off (by decide), unary_off (by decide), reshape_off (by decide), nullary_off (by decide), binary_off (by decide), nullary_off (by decide), binary_off (by decide), unary_off (by decide), binary_off (by decide), binary_off (by decide), nullary_off (by decide), binary_off (by decide), unary_off (by decide), binary_off (by decide), nullary_off (by decide), binary_off (by decide), nullary_off (by decide), unary_off (by decide), binary_off (by decide), nullary_off (by decide), unary_off (by decide), binary_off (by decide), binary_off (by decide), ternary_off (by decide), nullary_off (by decide), binary_off (by decide), ternary_off (by decide), nullary_off (by decide), binary_off (by decide), nullary_off (by decide), unary_off (by decide), binary_off (by decide), nullary_off (by decide), unary_off (by decide), binary_off (by decide), binary_off (by decide), ternary_off (by decide), nullary_off (by decide), binary_off (by decide), ternary_off (by decide), unary_off (by decide), unary_off (by decide), binary_off (by decide)⟩

/-- What the operations may touch: every array but the two inputs, half of whose shares is lent out. -/
abbrev SH : Finset (DevRef τ sig) := ((Pipeline.ucRefs τ sig).erase a').erase m'

theorem ops_bufs : ∀ op ∈ (ops : List (HloOp τ sig (Elt F))), op.bufs ⊆ SH := fun op h b hb =>
  Finset.mem_erase.mpr ⟨fun e => (List.forall_iff_forall_mem.mp ops_off op h).2 (e ▸ hb), Finset.mem_erase.mpr ⟨fun e => (List.forall_iff_forall_mem.mp ops_off op h).1 (e ▸ hb),
    Pipeline.sub_ucRefs op (List.forall_iff_forall_mem.mp ops_sub op h) hb⟩⟩

/-! ## @main -/

variable (m : (ℓ : Loc nD τ sig) → Buf (Elt F) ℓ) (ρ : Dev nD → PrngReg)

local notation "𝕄" => MT nD τ sig (HIx 1) (Elt F) ℕ UU ℕ

/-- The arrays at launch, and after the call: the result's rows filled. -/
def V0 (d : Dev nD) : Valuation τ sig (Elt F) := fun b => m (d, b)
def V1 (d : Dev nD) : Valuation τ sig (Elt F) := Function.update (V0 m d) o' (outV (m (aLoc d)) (m (mLoc d)))

abbrev aPts (d : Dev nD) (q : PosShare TreeShare) : sProp 𝕄 := aLoc d ↦{q} m (aLoc d)
abbrev mPts (d : Dev nD) (q : PosShare TreeShare) : sProp 𝕄 := mLoc d ↦{q} m (mLoc d)

theorem a_mem : a' ∈ Pipeline.ucRefs τ sig := by decide
theorem m_mem : m' ∈ (Pipeline.ucRefs τ sig).erase a' := by decide
theorem o_mem : o' ∈ SH := by decide

/-- The launch's arrays: the two inputs, the result, and the rest. -/
theorem launch_eq (d : Dev nD) :
    (unscopedBufs d (fun b => m ((SparseCore.T d).loc b)) : sProp 𝕄)
      = iprop(aPts m d fullShare ∗ mPts m d fullShare ∗ (oLoc d ↦{fullShare} m (oLoc d)) ∗ held (SparseCore.T d) (SH.erase o') (V0 m d)) := by
  refine (Pipeline.unscopedBufs_held (Ix := HIx 1) (Name := ℕ) (U := UU) (Lvl := ℕ) d (V0 m d)).trans ?_
  unfold held
  rw [SparseCore.bigSep_erase' a_mem, SparseCore.bigSep_erase' m_mem, SparseCore.bigSep_erase' o_mem]
  rfl

/-- After the call, what the operations run over. -/
theorem held_V1 (d : Dev nD) :
    (held (SparseCore.T d) SH (V1 m d) : sProp 𝕄)
      = iprop((oLoc d ↦{fullShare} outV (m (aLoc d)) (m (mLoc d))) ∗ held (SparseCore.T d) (SH.erase o') (V0 m d)) := by
  unfold held
  rw [SparseCore.bigSep_erase' o_mem]
  congr 1

/-- Subcores by SparseCore and number. -/
def byCore : Fin 2 × Fin 16 ≃ Fin 32 := (Equiv.prodComm (Fin 2) (Fin 16)).trans finProdFinEquiv

theorem byCore_eq (p : Fin 2 × Fin 16) : byCore p = wOf p.1.val p.2.val := by
  obtain ⟨c, i⟩ := p
  have := c.isLt
  have := i.isLt
  exact Fin.ext (by show c.val + 2 * i.val = (2 * i.val + c.val) % 32; omega)

theorem bigSep_cores (Φ : Fin 32 → sProp 𝕄) :
    bigSep Finset.univ Φ = bigSep (Finset.univ : Finset (Fin 2)) fun c => bigSep (Finset.univ : Finset (Fin 16)) fun i => Φ (wOf c.val i.val) := by
  rw [bigSep_univ_equiv byCore, BI.bigSep_univ_prod]
  exact bigSep_congr fun c _ => bigSep_congr fun i _ => congrArg Φ (byCore_eq (c, i))

/-- What the call takes: the lent shares of the inputs and the result's rows. -/
theorem st0_eq (d : Dev nD) : (bigSep Finset.univ fun c : Fin ((K (F := F)).nCore 0) => (P m).st 0 d c)
    = (iprop(aPts m d fullShare.right ∗ mPts m d fullShare.right ∗ (oLoc d ↦{fullShare} m (oLoc d))) : sProp 𝕄) := by
  refine (bigSep_cores (goW m d)).symm.trans ?_
  unfold goW
  rw [bigSep_sep', bigSep_sep']
  unfold aPts mPts
  rw [pointsTo_leaves Finset.univ (m (aLoc d)) 5 fullShare.right, pointsTo_leaves Finset.univ (m (mLoc d)) 5 fullShare.right,
    ← pointsTo_biUnion Finset.univ (ℓ := oLoc d) oSet oSet_disjoint, oSet_cover]
  rfl

/-- What it hands back: the result whole, its rows filled. -/
theorem dn0_eq (d : Dev nD) : (bigSep Finset.univ fun c : Fin ((K (F := F)).nCore 0) => (P m).dn 0 d c)
    = (oLoc d ↦{fullShare} outV (m (aLoc d)) (m (mLoc d)) : sProp 𝕄) := by
  refine (bigSep_cores (tdW m d)).symm.trans ?_
  unfold tdW
  rw [← pointsTo_biUnion Finset.univ (ℓ := oLoc d) oSet oSet_disjoint, oSet_cover]

/-- What @main leaves the claim: the inputs, and every other array at what the operations computed. -/
abbrev FIN (d : Dev nD) : sProp 𝕄 :=
  iprop(aPts m d fullShare.left ∗ mPts m d fullShare.left ∗ held (SparseCore.T d) SH (after ops (V1 m d)))

theorem pts_halves {ℓ : Loc nD τ sig} (f : Buf (Elt F) ℓ) : (ℓ ↦{fullShare} f : sProp 𝕄) ⊢ iprop((ℓ ↦{fullShare.left} f) ∗ ℓ ↦{fullShare.right} f) :=
  (pointsTo_share (PosShare.mem_left_op_right fullShare)).1

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (Cert.Kernel.main d)
          fun _ => iprop((K (F := F)).tcSt EH d 1 ∗ FIN m d ∗ (K (F := F)).tcEnd d) := by
  unfold SparseCore.Cfg.tcRes SparseCore.Cfg.tcEnd
  rw [launch_eq, main_eq, wp_bind]
  iintro ⟨#Hctx, Hst, ⟨Hb, ⟨Ha, Hm, Ho, Hrest⟩, Hts, -⟩, -⟩
  ihave Ha' := (pts_halves (F := F) (m (aLoc d))) $$ Ha
  icases Ha' with ⟨Ha, Ha'⟩
  ihave Hm' := (pts_halves (F := F) (m (mLoc d))) $$ Hm
  icases Hm' with ⟨Hm, Hm'⟩
  iapply ((K (F := F)).wp_run (D (F := F)) 𝒱 (EH := EH) (P := P m) κ d 0) $$ [-]
  isplitr; · iexact Hctx
  isplitl [Hst]; · iexact Hst
  isplitl [Ha' Hm' Ho]
  · rw [st0_eq]
    isplitl [Ha']; · iexact Ha'
    isplitl [Hm']; · iexact Hm'
    iexact Ho
  iintro ⟨Hst, Hdn⟩
  ihave Ho := (Entails.of_eq (dn0_eq m d)) $$ Hdn
  iapply (wp_seq 𝒱 none Set.univ d SH (fun u => Pure.pure u) ops ops_bufs ops_fresh (V1 m d)) $$ [Hb Ho Hrest]
  · isplitl [Hb]; · iexact Hb
    rw [held_V1]
    isplitl [Ho]; · iexact Ho
    iexact Hrest
  iintro ⟨Hb, Hheld⟩
  rw [wp_pure]; imodintro
  isplitl [Hst]; · iexact Hst
  isplitl [Ha Hm Hheld]
  · isplitl [Ha]; · iexact Ha
    isplitl [Hm]; · iexact Hm
    iexact Hheld
  isplitl [Hb]; · iexact Hb
  iexact Hts

/-- What the claim reads of a final state. -/
def fq (d : Dev nD) (s' : Phys nD τ sig (Elt F)) : Prop :=
  s'.mem.mem (aLoc d) = m (aLoc d) ∧ s'.mem.mem (mLoc d) = m (mLoc d) ∧ ∀ b ∈ SH, s'.mem.mem (d, b) = after ops (V1 m d) b

theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (aLoc d) = m (aLoc d)⌝ : sProp 𝕄) := by
    iintro ⟨⟨Ha, -, -⟩, HSI⟩
    ihave H := (SI_pointsTo_agree (st := s') (ℓ := aLoc d) (I := Finset.univ) (q := fullShare.left) (f := m (aLoc d))) $$ [HSI Ha]
    · isplitl [HSI] <;> iassumption
    icases H with %hx
    ipureintro; exact funext fun i => hx i (Finset.mem_univ i)
  have h2 : iprop(FIN m d ∗ SI s') ⊢ (⌜s'.mem.mem (mLoc d) = m (mLoc d)⌝ : sProp 𝕄) := by
    iintro ⟨⟨-, Hm, -⟩, HSI⟩
    ihave H := (SI_pointsTo_agree (st := s') (ℓ := mLoc d) (I := Finset.univ) (q := fullShare.left) (f := m (mLoc d))) $$ [HSI Hm]
    · isplitl [HSI] <;> iassumption
    icases H with %hx
    ipureintro; exact funext fun i => hx i (Finset.mem_univ i)
  have h3 : iprop(FIN m d ∗ SI s') ⊢ (⌜∀ b ∈ SH, s'.mem.mem (d, b) = after ops (V1 m d) b⌝ : sProp 𝕄) := by
    iintro ⟨⟨-, -, H⟩, HSI⟩
    iapply (SI_pointsTo_bufs_agree (st := s') (c := d) (qs := fun _ => fullShare) (F := after ops (V1 m d)) SH) $$ [HSI H]
    isplitl [HSI]; · iexact HSI
    unfold held
    iexact H
  refine pure_elim _ h1 fun e1 => pure_elim _ h2 fun e2 => h3.trans ?_
  iintro %e3
  ipureintro; exact ⟨e1, e2, e3⟩

/-! ## The program's run -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_emp' _, bigSep_emp']
  iempintro

/-- On every device: the inputs as they were, every other array at what the operations compute from the call's result,
    and no semaphore counter left up. -/
def QC : PUnit × MemSt nD τ sig (Elt F) → Prop := fun r =>
  (∀ d : Dev nD, r.2.mem (aLoc d) = m (aLoc d) ∧ r.2.mem (mLoc d) = m (mLoc d) ∧ ∀ b ∈ SH, r.2.mem (d, b) = after ops (V1 m d) b) ∧ r.2.sem = fun _ => 0

theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ Cert.Kernel.main (fun _ => iprop(emp)) (FIN m) (u₀ (F := F)) (sep_elim_left.trans (hu₀ m)) (hmain m ρ) (fq m) (hfin m) (QC m) (fun _ h hz => ⟨h, hz⟩)

end Cert.Proof.Kernel

end
-- ==== Proof.Result.lean ====
/-
  What the program leaves: its result as one function of the tiles' partial sums and the arguments, its arguments
  as they were.
-/
module

public import proofs.«01_k».proof.Proof.Host

@[expose] public section

noncomputable section

namespace Cert.Proof.Kernel

open Cert.Kernel Cert.Kernel.Gen

open Idealize.ShloMosaic Idealize.ShloMosaic.TcCoe Idealize.ShloMosaic.StableHlo Idealize.SL.Sem

variable {F : FTy → Type}

variable [FloatOps F]

/-! ## The result as a function of sums and counts -/

/-- A number in each of the 96 channels. -/
abbrev each (b : BitVec 32) : FVec F S96 .f32 := broadcastInDim S96 ![] bcast_S_S96 (constant S_ .f32 b)

/-- The mean of a class: its sum over its count, a count of zero read as one. -/
def mean (s : FVec F S96 .f32) (n : FVec F S_ .f32) : FVec F S96 .f32 :=
  Host.divf s (broadcastInDim S96 ![] bcast_S_S96 (maximumf n (constant S_ .f32 0x3F800000#32)))

/-- The new prototype of a class: the mean the first time, a mixture of the old and the mean afterwards, the old one
    where the class has no pixel. -/
def proto (s : FVec F S96 .f32) (n : FVec F S_ .f32) (old : FVec F S96 .f32) (u : IVec S_ 32) : FVec F S96 .f32 :=
  select (broadcastInDim S96 ![] bcast_S_S96 (cmpf .ogt n (constant S_ .f32 0x00000000#32)))
    (select (broadcastInDim S96 ![] bcast_S_S96 (cmpi .eq u (constantI S_ 32 0#32))) (mean s n)
      (addf (mulf old (each 0x3F666666#32)) (mulf (mean s n) (each 0x3DCCCCCD#32)))) old

/-- Both prototypes, the foreground's first. -/
def protos (sf : FVec F S96 .f32) (nf : FVec F S_ .f32) (sb : FVec F S96 .f32) (nb : FVec F S_ .f32)
    (pf pb : FVec F S96 .f32) (uf ub : IVec S_ 32) : FVec F S2x96 .f32 :=
  stack2 (broadcastInDim S1x96 ![1] bcast_S96_S1x96_1 (proto sf nf pf uf)) (broadcastInDim S1x96 ![1] bcast_S96_S1x96_1 (proto sb nb pb ub))

/-! ## The tiles' partial sums, gathered -/

/-- The tiles' rows, their sixteen lanes added: per batch, eight tiles of 25 rows. -/
def lanes (o : FVec F S32x25x16 .f32) : FVec F S4x8x25 .f32 :=
  shapeCast S4x8x25 (Host.reduceAdd o (constant S_ .f32 0x00000000#32) reducesTo_S32x25x16_S32x25_d2 h_S_) shapeCasts_S32x25_S4x8x25

/-- The foreground's count: row 0 of each batch's first tile. -/
def fgCount (o : FVec F S32x25x16 .f32) : FVec F S_ .f32 :=
  Host.reduceAdd (shapeCast S4 (extractStridedSlice S4x1x1 ![0, 0, 0] (lanes o) slices_S4x8x25_S4x1x1_0_0_0) shapeCasts_S4x1x1_S4)
    (constant S_ .f32 0x00000000#32) reducesTo_S4_S_d0 h_S_

/-- The foreground's sums: rows 1 to 12, over the batches. -/
def fgSum (o : FVec F S32x25x16 .f32) : FVec F S96 .f32 :=
  Host.reduceAdd (shapeCast S4x96 (extractStridedSlice S4x8x12 ![0, 0, 1] (lanes o) slices_S4x8x25_S4x8x12_0_0_1) shapeCasts_S4x8x12_S4x96)
    (constant S_ .f32 0x00000000#32) reducesTo_S4x96_S96_d0 h_S_

/-- All pixels' sums: rows 13 to 24, over the batches. -/
def allSum (o : FVec F S32x25x16 .f32) : FVec F S96 .f32 :=
  Host.reduceAdd (shapeCast S4x96 (extractStridedSlice S4x8x12 ![0, 0, 13] (lanes o) slices_S4x8x25_S4x8x12_0_0_13) shapeCasts_S4x8x12_S4x96)
    (constant S_ .f32 0x00000000#32) reducesTo_S4x96_S96_d0 h_S_

/-- The result of the partial sums: the background is all pixels but the foreground. -/
def result (o : FVec F S32x25x16 .f32) (pf pb : FVec F S96 .f32) (uf ub : IVec S_ 32) : FVec F S2x96 .f32 :=
  protos (fgSum o) (fgCount o) (subf (allSum o) (fgSum o)) (subf (constant S_ .f32 0x49800000#32) (fgCount o)) pf pb uf ub

/-! ## The operations' valuation read -/

abbrev dr (x : Ref sig .tc) : DevRef τ sig := Proc.devRef .tc x

set_option maxRecDepth 8192 in
set_option maxHeartbeats 26400000 in
theorem ops_result (W : Valuation τ sig (Elt F)) : after ops W (dr main_v40)
    = result (W (dr main_v0)) (W (dr main_arg2)) (W (dr main_arg3)) (W (dr main_arg4)) (W (dr main_arg5)) := by
  simp only [ops, TRef.ternary, TRef.toBuf, TRef.ofBuf, cast_eq]
  after_results_simp <;> rfl

set_option maxRecDepth 8192 in
set_option maxHeartbeats 26400000 in
theorem ops_args (W : Valuation τ sig (Elt F)) : after ops W (dr main_arg2) = W (dr main_arg2) ∧ after ops W (dr main_arg3) = W (dr main_arg3)
    ∧ after ops W (dr main_arg4) = W (dr main_arg4) ∧ after ops W (dr main_arg5) = W (dr main_arg5) := by
  refine ⟨?_, ?_, ?_, ?_⟩ <;>
  · simp only [ops, TRef.ternary, TRef.toBuf, TRef.ofBuf, cast_eq]
    after_results_simp <;> rfl

/-! ## The run -/

variable (m : (ℓ : Loc nD τ sig) → Buf (Elt F) ℓ) (ρ : Dev nD → PrngReg)

abbrev at' (d : Dev nD) (x : Ref sig .tc) : Loc nD τ sig := (d.tc : Thread nD τ).loc x

/-- The result at the arguments' launch contents. -/
def outR (d : Dev nD) : FVec F S2x96 .f32 :=
  result (outV (m (at' d main_arg0)) (m (at' d main_arg1))) (m (at' d main_arg2)) (m (at' d main_arg3)) (m (at' d main_arg4)) (m (at' d main_arg5))

theorem V1_o (d : Dev nD) : V1 m d (dr main_v0) = outV (m (aLoc d)) (m (mLoc d)) := Function.update_self ..

theorem V1_ne (d : Dev nD) {x : Ref sig .tc} (h : dr x ≠ o') : V1 m d (dr x) = m (d, dr x) := Function.update_of_ne h _ _

/-- The whole program: the result, the arguments kept, every counter back at zero. -/
theorem run_result [∀ e, Nonempty (Elt F e)] : θ_run (Cert.Kernel.defs (F := F)) (Cert.Kernel.threads (F := F)) ⟨m, fun _ => 0, ρ⟩ fun r =>
    (∀ d : Dev nD, r.2.mem (at' d main_v40) = outR m d
      ∧ r.2.mem (at' d main_arg0) = m (at' d main_arg0) ∧ r.2.mem (at' d main_arg1) = m (at' d main_arg1)
      ∧ r.2.mem (at' d main_arg2) = m (at' d main_arg2) ∧ r.2.mem (at' d main_arg3) = m (at' d main_arg3)
      ∧ r.2.mem (at' d main_arg4) = m (at' d main_arg4) ∧ r.2.mem (at' d main_arg5) = m (at' d main_arg5))
    ∧ r.2.sem = fun _ => 0 := by
  refine (θ_run (Cert.Kernel.defs (F := F)) _ _).mono (fun r h => ⟨fun d => ?_, h.2⟩) (run_main m ρ)
  obtain ⟨h0, h1, hr⟩ := h.1 d
  obtain ⟨e2, e3, e4, e5⟩ := ops_args (V1 m d)
  have hv := ops_result (V1 m d)
  rw [V1_o, V1_ne m d (x := main_arg2) (by decide), V1_ne m d (x := main_arg3) (by decide), V1_ne m d (x := main_arg4) (by decide), V1_ne m d (x := main_arg5) (by decide)] at hv
  exact ⟨(hr (dr main_v40) (by decide)).trans hv, h0, h1,
    (hr (dr main_arg2) (by decide)).trans (e2.trans (V1_ne m d (by decide))), (hr (dr main_arg3) (by decide)).trans (e3.trans (V1_ne m d (by decide))),
    (hr (dr main_arg4) (by decide)).trans (e4.trans (V1_ne m d (by decide))), (hr (dr main_arg5) (by decide)).trans (e5.trans (V1_ne m d (by decide)))⟩

end Cert.Proof.Kernel

end
-- ==== Proof.Frames.lean ====
/-
  The frames: each program ends, leaves its arguments as they were, and leaves every counter at zero.
-/
module

public import proofs.«01_k».proof.Defs
public import proofs.«01_k».proof.Proof.Gen.Kernel
public import proofs.«01_k».proof.Proof.Gen.KernelIdeal
public import proofs.«01_k».proof.Proof.Gen.ReferenceIdeal.Run
public import Idealize.ShloMosaic.Lib.Pipeline.Quiescent
public import proofs.«01_k».proof.Proof.Result

@[expose] public section

noncomputable section

namespace Cert.Proof

open Idealize.ShloMosaic Idealize.SL.Sem

instance : Cert.Pre_finite_features.Facts where
  bcast_S_S4x96x512x512 := by decide
  reducesTo_S4x96x512x512_S_d0_1_2_3 := by decide
  h_S_ := by decide

/-! The idealised program is the program at the ideal instance. -/

set_option maxRecDepth 100000 in
theorem main_same : Cert.KernelIdeal.main (F := Ideal) = Cert.Kernel.main (F := Ideal) := rfl

set_option maxRecDepth 100000 in
theorem defs_same : Cert.KernelIdeal.defs (F := Ideal) = Cert.Kernel.defs (F := Ideal) := rfl

set_option maxRecDepth 100000 in
theorem threads_same : Cert.KernelIdeal.threads (F := Ideal) = Cert.Kernel.threads (F := Ideal) := rfl

theorem frame_kernel : Cert.quiescent_Kernel := fun m g _ =>
  (θ_run (Cert.Kernel.defs (F := Bits)) _ _).mono (fun _ h => ⟨fun c => (h.1 c).2, h.2⟩) (Kernel.run_result (F := Bits) m g)

set_option maxRecDepth 100000 in
theorem run_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_v40) = Kernel.outR (F := Ideal) m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) := by
  rw [defs_same, threads_same]
  exact Kernel.run_result (F := Ideal) m g

theorem frame_ideal : Cert.quiescent_KernelIdeal := fun m g _ =>
  (θ_run (Cert.KernelIdeal.defs (F := Ideal)) _ _).mono (fun _ h => ⟨fun c => (h.1 c).2, h.2⟩) (run_ideal m g)

theorem frame_ideal_pre : Cert.quiescent_KernelIdeal_pre_finite_features := fun m g _ => frame_ideal m g trivial

theorem frame_ref : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem frame_ref_pre : Cert.quiescent_ReferenceIdeal_pre_finite_features := fun m g _ => frame_ref m g trivial

theorem preserves : Cert.preserves_Kernel_KernelIdeal := trivial

end Cert.Proof

end
-- ==== Proof.Sums.lean ====
/-
  Sums over ranges of numbers: a range cut in equal parts, and a plane of 512 by 512 summed strip by strip, the way a
  tile goes through it.
-/
module

public import Idealize.ShloMosaic.PureOps.Ideal

@[expose] public section

namespace Cert.Proof.Sums

open Finset

variable {A : Type*} [AddCommMonoid A]

/-- `a` parts of `b`. -/
theorem range_mul (a b : ℕ) (f : ℕ → A) : ∑ i ∈ range (a * b), f i = ∑ i ∈ range a, ∑ j ∈ range b, f (i * b + j) := by
  induction a with
  | zero => simp
  | succ a ih => rw [Nat.succ_mul, sum_range_add, ih, sum_range_succ]

/-- The plane. -/
def plane (G : ℕ → ℕ → A) : A := ∑ h ∈ range 512, ∑ w ∈ range 512, G h w

theorem plane_congr {G H : ℕ → ℕ → A} (e : ∀ h < 512, ∀ w < 512, G h w = H h w) : plane G = plane H :=
  sum_congr rfl fun h hh => sum_congr rfl fun w hw => e h (mem_range.mp hh) w (mem_range.mp hw)

/-- Lane by lane, chunk by chunk, group by group, row by row: every pixel of the plane once. -/
theorem strips (G : ℕ → ℕ → A) :
    ∑ x ∈ range 16, ∑ n ∈ range 128, ∑ k ∈ range 16, ∑ r ∈ range 8, G (8 * (n / 2) + r) (256 * (n % 2) + (16 * k + x)) = plane G := by
  have hl : ∀ x, ∑ n ∈ range 128, ∑ k ∈ range 16, ∑ r ∈ range 8, G (8 * (n / 2) + r) (256 * (n % 2) + (16 * k + x))
      = ∑ a ∈ range 64, ∑ e ∈ range 2, ∑ k ∈ range 16, ∑ r ∈ range 8, G (a * 8 + r) (e * 256 + (k * 16 + x)) := fun x => by
    refine (range_mul 64 2 _).trans (sum_congr rfl fun a _ => sum_congr rfl fun e he => ?_)
    have he' := mem_range.mp he
    rw [show (a * 2 + e) / 2 = a by omega, show (a * 2 + e) % 2 = e by omega]
    simp only [Nat.mul_comm]
  have hr : plane G = ∑ a ∈ range 64, ∑ r ∈ range 8, ∑ e ∈ range 2, ∑ k ∈ range 16, ∑ x ∈ range 16, G (a * 8 + r) (e * 256 + (k * 16 + x)) := by
    refine (range_mul 64 8 _).trans (sum_congr rfl fun a _ => sum_congr rfl fun r _ => ?_)
    exact (range_mul 2 256 _).trans (sum_congr rfl fun e _ => range_mul 16 16 fun i => G (a * 8 + r) (e * 256 + i))
  rw [hr, sum_congr rfl fun x _ => hl x, sum_comm]
  refine sum_congr rfl fun a _ => ?_
  rw [sum_comm, sum_comm (s := range 8)]
  refine sum_congr rfl fun e _ => ?_
  rw [sum_comm, sum_comm (s := range 8)]
  exact sum_congr rfl fun k _ => sum_comm

end Cert.Proof.Sums
-- ==== Proof.Tiles.lean ====
/-
  The tiles' partial sums over the extended reals: what each tile's accumulators add up to, and what the gathered rows
  are as sums over batches and pixels.
-/
module

public import Idealize.ShloMosaic.Lib.Pointwise
public import Idealize.ShloMosaic.Lib.IdealHost
public import proofs.«01_k».proof.Proof.Sums
public import proofs.«01_k».proof.Proof.Result

@[expose] public section

set_option maxRecDepth 16384

noncomputable section

namespace Cert.Proof.Kernel

open Cert.Kernel Cert.Kernel.Gen Cert.Proof.Sums
open Idealize.ShloMosaic hiding ix1 ix2 ix3 ix4
open Idealize.ShloMosaic.ValueIdx
open Finset (range sum_congr sum_comm sum_range_succ mem_range)

variable (fv : S4x96x512x512.Idx → EReal) (mv : S4x512x512.Idx → EReal)

/-! ## Pixels by number -/

/-- The feature of a pixel in a channel. -/
def feat (b c h w : ℕ) : EReal := fv (ix4 (Fin.ofNat 4 b) (Fin.ofNat 96 c) (Fin.ofNat 512 h) (Fin.ofNat 512 w))

/-- Whether a pixel is of the foreground: its mask is above one half. -/
def fg (b h w : ℕ) : Prop := Ideal.ofBits .f32 0x3F000000#32 < mv (ix3 (Fin.ofNat 4 b) (Fin.ofNat 512 h) (Fin.ofNat 512 w))

open Classical in
/-- One on the foreground. -/
def ind (b h w : ℕ) : EReal := if fg mv b h w then 1 else 0

/-- What a pixel adds to accumulator `j` of a tile whose channels begin at `c`. -/
def adds (b c : ℕ) (j : Fin 25) (h w : ℕ) : EReal :=
  if j.val = 0 then ind mv b h w else if j.val < 13 then feat fv b (c + (j.val - 1)) h w * ind mv b h w else feat fv b (c + (j.val - 13)) h w

/-! ## One row -/

theorem cmp_one (x y : Ideal .f32) : Ideal.cmp .ogt x y = 1 ↔ y < x := by
  unfold Ideal.cmp
  by_cases h : y < x
  · simp [h]
  · simp [h]

theorem featVec_FB (i : grid0.Coords) (n ch r k : ℕ) (x : Fin 16) (hc : ch < 12) (hr : r < 8) (hk : k < 16) :
    (featVec (F := Ideal) 0 (FB (F := Ideal) fv i n) ch r k) (ix1 x)
      = feat fv (wid i / 8) (wid i % 8 * 12 + ch) (8 * (n / 2) + r) (256 * (n % 2) + (16 * k + x.val)) := by
  show fv _ = fv _
  have e1 : (Fin.ofNat 12 ch).val = ch := Nat.mod_eq_of_lt hc
  have e2 : (Fin.ofNat 8 r).val = r := Nat.mod_eq_of_lt hr
  have e3 : (Fin.ofNat 256 (16 * k + x.val)).val = 16 * k + x.val := Nat.mod_eq_of_lt (by have := x.isLt; omega)
  show fv (ix4 _ (Fin.ofNat 96 (wid i % 8 * 12 + (Fin.ofNat 12 ch).val)) (Fin.ofNat 512 (8 * (n / 2) + (Fin.ofNat 8 r).val))
    (Fin.ofNat 512 (256 * (n % 2) + (Fin.ofNat 256 (16 * k + x.val)).val))) = _
  rw [e1, e2, e3]

theorem indVec_MB (i : grid0.Coords) (n r k : ℕ) (x : Fin 16) (hr : r < 8) (hk : k < 16) :
    (indVec (F := Ideal) 0 (MB (F := Ideal) mv i n) r k) (ix1 x) = ind mv (wid i / 8) (8 * (n / 2) + r) (256 * (n % 2) + (16 * k + x.val)) := by
  have e2 : (Fin.ofNat 8 r).val = r := Nat.mod_eq_of_lt hr
  have e3 : (Fin.ofNat 256 (16 * k + x.val)).val = 16 * k + x.val := Nat.mod_eq_of_lt (by have := x.isLt; omega)
  show Scalar.select (Ideal.cmp .ogt (mv (ix3 _ (Fin.ofNat 512 (8 * (n / 2) + (Fin.ofNat 8 r).val))
    (Fin.ofNat 512 (256 * (n % 2) + (Fin.ofNat 256 (16 * k + x.val)).val)))) (Ideal.ofBits .f32 0x3F000000#32))
      (Ideal.ofBits .f32 0x3F800000#32) (Ideal.ofBits .f32 0x00000000#32) = _
  rw [e2, e3]
  rw [Ideal.ofBits_zero_f32, Ideal.ofBits_one_f32]
  unfold Scalar.select ind
  by_cases h : fg mv (wid i / 8) (8 * (n / 2) + r) (256 * (n % 2) + (16 * k + x.val))
  · rw [if_pos h, if_pos ((cmp_one _ _).mpr h)]
  · rw [if_neg h, if_neg (fun e => h ((cmp_one _ _).mp e))]

theorem rowTerm_adds (i : grid0.Coords) (n r k : ℕ) (j : Fin 25) (x : Fin 16) (hr : r < 8) (hk : k < 16) :
    rowTerm (F := Ideal) 0 (FB (F := Ideal) fv i n) (MB (F := Ideal) mv i n) r k j (ix1 x)
      = adds fv mv (wid i / 8) (wid i % 8 * 12) j (8 * (n / 2) + r) (256 * (n % 2) + (16 * k + x.val)) := by
  have hj := j.isLt
  unfold rowTerm adds
  by_cases h0 : j.val = 0
  · rw [if_pos h0, if_pos h0]; exact indVec_MB mv i n r k x hr hk
  · rw [if_neg h0, if_neg h0]
    by_cases h1 : j.val < 13
    · rw [if_pos h1, if_pos h1, ← featVec_FB fv i n (j.val - 1) r k x (by omega) hr hk, ← indVec_MB mv i n r k x hr hk]
      rfl
    · rw [if_neg h1, if_neg h1]; exact featVec_FB fv i n (j.val - 13) r k x (by omega) hr hk

/-! ## One tile -/

theorem trip_sum (s : ℕ) (f : S2x12x8x256.Idx → EReal) (g : S2x8x256.Idx → EReal) (k : ℕ) (a : Acc Ideal) (j : Fin 25) (x : S16.Idx) :
    trip (F := Ideal) s f g k a j x = a j x + ∑ r ∈ range 8, rowTerm (F := Ideal) s f g r k j x := by
  simp only [sum_range_succ, Finset.sum_range_zero, zero_add, ← add_assoc]
  rfl

theorem trips_sum (s : ℕ) (f : S2x12x8x256.Idx → EReal) (g : S2x8x256.Idx → EReal) (a : Acc Ideal) (j : Fin 25) (x : S16.Idx) (n : ℕ) :
    trips (F := Ideal) s f g a n j x = a j x + ∑ k ∈ range n, ∑ r ∈ range 8, rowTerm (F := Ideal) s f g r k j x := by
  induction n with
  | zero => simp [trips]
  | succ n ih => rw [trips, trip_sum, ih, sum_range_succ (n := n), add_assoc]

theorem accN_sum (i : grid0.Coords) (j : Fin 25) (x : Fin 16) (n : ℕ) :
    accN (F := Ideal) fv mv i n j (ix1 x) = ∑ n ∈ range n, ∑ k ∈ range 16, ∑ r ∈ range 8,
      adds fv mv (wid i / 8) (wid i % 8 * 12) j (8 * (n / 2) + r) (256 * (n % 2) + (16 * k + x.val)) := by
  induction n with
  | zero => exact Ideal.ofBits_zero_f32
  | succ n ih =>
    rw [accN, trips_sum, ih, sum_range_succ (n := n)]
    congr 1
    exact sum_congr rfl fun k hk => sum_congr rfl fun r hr => rowTerm_adds fv mv i n r k j x (mem_range.mp hr) (mem_range.mp hk)

/-- A tile's row, its lanes added, is a sum over the plane of its batch. -/
theorem lanes_plane (w : Fin 32) (j : Fin 25) :
    ∑ x : Fin 16, outV (F := Ideal) fv mv (Idealize.ShloMosaic.ix3 w j x) = plane (adds fv mv (w.val / 8) (w.val % 8 * 12) j) := by
  rw [← strips, Finset.sum_range]
  refine sum_congr rfl fun x _ => ?_
  have h := accN_sum fv mv (tileOf w) j x 128
  rw [wid_tileOf] at h
  exact h

/-! ## The gathered rows -/

section Gathered

variable (o : FVec Ideal S32x25x16 .f32)

theorem fgCount_at (y : S_.Idx) : fgCount o y = ∑ b : Fin 4, ∑ x : Fin 16, o (Idealize.ShloMosaic.ix3 (⟨b.val * 8, by omega⟩ : Fin 32) (0 : Fin 25) x) := by
  pointwise [fgCount, lanes]

theorem fgSum_at (y : S96.Idx) : fgSum o y = ∑ b : Fin 4, ∑ x : Fin 16, o (Idealize.ShloMosaic.ix3 (⟨b.val * 8 + (y 0).val / 12, by have : (y 0).val < 96 := (y 0).isLt; omega⟩ : Fin 32)
    (⟨1 + (y 0).val % 12, by omega⟩ : Fin 25) x) := by
  pointwise [fgSum, lanes]

theorem allSum_at (y : S96.Idx) : allSum o y = ∑ b : Fin 4, ∑ x : Fin 16, o (Idealize.ShloMosaic.ix3 (⟨b.val * 8 + (y 0).val / 12, by have : (y 0).val < 96 := (y 0).isLt; omega⟩ : Fin 32)
    (⟨13 + (y 0).val % 12, by omega⟩ : Fin 25) x) := by
  pointwise [allSum, lanes]

end Gathered

/-- The foreground's count: its pixels, one each. -/
theorem fgCount_sum (y : S_.Idx) : fgCount (F := Ideal) (outV (F := Ideal) fv mv) y = ∑ b ∈ range 4, plane (ind mv b) := by
  refine (fgCount_at _ y).trans ((Fintype.sum_congr _ _ fun b => ?_).trans (Fin.sum_univ_eq_sum_range (fun b => plane (ind mv b)) 4))
  refine (lanes_plane fv mv _ _).trans (plane_congr fun h _ w _ => ?_)
  show ind mv (b.val * 8 / 8) h w = _
  rw [show b.val * 8 / 8 = b.val by omega]

/-- The foreground's sums: each pixel's feature where it counts. -/
theorem fgSum_sum (y : S96.Idx) : fgSum (F := Ideal) (outV (F := Ideal) fv mv) y = ∑ b ∈ range 4, plane fun h w => feat fv b (y 0).val h w * ind mv b h w := by
  refine (fgSum_at _ y).trans ((Fintype.sum_congr _ _ fun b => ?_).trans
    (Fin.sum_univ_eq_sum_range (fun b => plane fun h w => feat fv b (y 0).val h w * ind mv b h w) 4))
  have hb := b.isLt
  have hy : (y 0).val < 96 := (y 0).isLt
  refine (lanes_plane fv mv _ _).trans (plane_congr fun h _ w _ => ?_)
  unfold adds
  rw [if_neg (show ¬ 1 + (y 0).val % 12 = 0 by omega), if_pos (show 1 + (y 0).val % 12 < 13 by omega)]
  show feat fv ((b.val * 8 + (y 0).val / 12) / 8) ((b.val * 8 + (y 0).val / 12) % 8 * 12 + (1 + (y 0).val % 12 - 1)) h w * ind mv ((b.val * 8 + (y 0).val / 12) / 8) h w = _
  rw [show (b.val * 8 + (y 0).val / 12) / 8 = b.val by omega, show (b.val * 8 + (y 0).val / 12) % 8 * 12 + (1 + (y 0).val % 12 - 1) = (y 0).val by omega]

/-- All pixels' sums. -/
theorem allSum_sum (y : S96.Idx) : allSum (F := Ideal) (outV (F := Ideal) fv mv) y = ∑ b ∈ range 4, plane fun h w => feat fv b (y 0).val h w := by
  refine (allSum_at _ y).trans ((Fintype.sum_congr _ _ fun b => ?_).trans
    (Fin.sum_univ_eq_sum_range (fun b => plane fun h w => feat fv b (y 0).val h w) 4))
  have hb := b.isLt
  have hy : (y 0).val < 96 := (y 0).isLt
  refine (lanes_plane fv mv _ _).trans (plane_congr fun h _ w _ => ?_)
  unfold adds
  rw [if_neg (show ¬ 13 + (y 0).val % 12 = 0 by omega), if_neg (show ¬ 13 + (y 0).val % 12 < 13 by omega)]
  show feat fv ((b.val * 8 + (y 0).val / 12) / 8) ((b.val * 8 + (y 0).val / 12) % 8 * 12 + (13 + (y 0).val % 12 - 13)) h w = _
  rw [show (b.val * 8 + (y 0).val / 12) / 8 = b.val by omega, show (b.val * 8 + (y 0).val / 12) % 8 * 12 + (13 + (y 0).val % 12 - 13) = (y 0).val by omega]

end Cert.Proof.Kernel

end
-- ==== Proof.Segments.lean ====
/-
  The reference's two segment sums over the extended reals: its result as the same function of sums and counts that the
  program's is, and its sums and counts as sums over batches and pixels.
-/
module

public import Idealize.ShloMosaic.Lib.Pointwise
public import Idealize.ShloMosaic.Lib.IdealHost
public import proofs.«01_k».proof.Proof.Gen.ReferenceIdeal.Run
public import proofs.«01_k».proof.Proof.Tiles

@[expose] public section

set_option maxRecDepth 16384

noncomputable section

namespace Cert.Proof.Ref

open Cert.ReferenceIdeal Cert.ReferenceIdeal.Gen Cert.Proof.Sums
open Idealize.ShloMosaic hiding ix1 ix2 ix3 ix4
open Idealize.ShloMosaic.TcCoe
open Idealize.ShloMosaic.ValueIdx
open Finset (range sum_congr sum_comm sum_range_succ mem_range)
open Cert.Proof.Kernel (feat fg ind protos cmp_one)

section Shape

variable {F : FTy → Type} [FloatOps F] (fv : FVec F S4x96x512x512 .f32) (mv : FVec F S4x512x512 .f32)

/-- Each pixel's class: one on the foreground. -/
def seg : IVec S1048576x1 32 :=
  broadcastInDim S1048576x1 ![0] bcast_S1048576_S1048576x1_0 (extui 32 (shapeCast S1048576
    (cmpf .ogt mv (broadcastInDim S4x512x512 ![] bcast_S_S4x512x512 (constant S_ .f32 0x3F000000#32))) shapeCasts_S4x512x512_S1048576) natLt_1_32)

/-- The pixels as rows of features. -/
def rows : FVec F S1048576x96 .f32 :=
  shapeCast S1048576x96 (transpose S4x512x512x96 [0, 2, 3, 1] fv transposes_S4x96x512x512_S4x512x512x96_0_2_3_1) shapeCasts_S4x512x512x96_S1048576x96

def sums2 : FVec F S2x96 .f32 :=
  Host.scatterAdd scatter_S2x96_S1048576x1_S1048576x96_1_0_0_1 (broadcastInDim S2x96 ![] bcast_S_S2x96 (constant S_ .f32 0x00000000#32)) (seg mv) (rows fv)

def counts2 : FVec F S2 .f32 :=
  Host.scatterAdd scatter_S2_S1048576x1_S1048576_n_0_0_1 (broadcastInDim S2 ![] bcast_S_S2 (constant S_ .f32 0x00000000#32)) (seg mv)
    (broadcastInDim S1048576 ![] bcast_S_S1048576 (constant S_ .f32 0x3F800000#32))

def sumFg : FVec F S96 .f32 := shapeCast S96 (extractStridedSlice S1x96 ![1, 0] (sums2 fv mv) slices_S2x96_S1x96_1_0) shapeCasts_S1x96_S96
def sumBg : FVec F S96 .f32 := shapeCast S96 (extractStridedSlice S1x96 ![0, 0] (sums2 fv mv) slices_S2x96_S1x96_0_0) shapeCasts_S1x96_S96
def cntFg : FVec F S_ .f32 := shapeCast S_ (extractStridedSlice S1 ![1] (counts2 mv) slices_S2_S1_1) shapeCasts_S1_S_
def cntBg : FVec F S_ .f32 := shapeCast S_ (extractStridedSlice S1 ![0] (counts2 mv) slices_S2_S1_0) shapeCasts_S1_S_

/-- The reference's result is the prototypes of its sums and counts. -/
theorem result_eq (m : (ℓ : Loc nD τ sig) → Buf (Elt F) ℓ) (c : Dev nD) :
    Value.res_main_v51 m c = protos (sumFg (m ((c.tc : Thread nD τ).loc main_arg0)) (m ((c.tc : Thread nD τ).loc main_arg1))) (cntFg (m ((c.tc : Thread nD τ).loc main_arg1)))
      (sumBg (m ((c.tc : Thread nD τ).loc main_arg0)) (m ((c.tc : Thread nD τ).loc main_arg1))) (cntBg (m ((c.tc : Thread nD τ).loc main_arg1)))
      (m ((c.tc : Thread nD τ).loc main_arg2)) (m ((c.tc : Thread nD τ).loc main_arg3)) (m ((c.tc : Thread nD τ).loc main_arg4)) (m ((c.tc : Thread nD τ).loc main_arg5)) := rfl

end Shape

/-! ## Where an update lands -/

theorem lands {s si u : Shape} (d : ScatterDims s si u) (idx : IVec si 32) (j : u.Idx) (x : s.Idx) :
    d.resultIdx? j idx = some x ↔ ∀ a, d.start j idx a + d.window j a = ((x a).val : Int) := by
  unfold ScatterDims.resultIdx?
  split
  · next h =>
    constructor
    · intro e a
      have := congrArg Fin.val (congrFun (Option.some.inj e) a)
      have := h a
      change (d.start j idx a + d.window j a).toNat = (x a).val at *
      omega
    · intro e
      refine congrArg some (funext fun a => Fin.ext ?_)
      show (d.start j idx a + d.window j a).toNat = (x a).val
      rw [e a]; rfl
  · next h =>
    refine ⟨(fun e => nomatch e), fun e => (h fun a => ?_).elim⟩
    have := (x a).isLt
    rw [e a]; omega

abbrev dS := scatter_S2x96_S1048576x1_S1048576x96_1_0_0_1
abbrev dC := scatter_S2_S1048576x1_S1048576_n_0_0_1

theorem siS (j : S1048576x96.Idx) (c) : dS.siIdx j c = (ix2 (j 0) (0 : Fin 1) : S1048576x1.Idx) := by
  funext b
  match b with
  | 0 => rfl
  | 1 => exact Subsingleton.elim (α := Fin 1) _ _

theorem siC (j : S1048576.Idx) (c) : dC.siIdx j c = (ix2 (j 0) (0 : Fin 1) : S1048576x1.Idx) := by
  funext b
  match b with
  | 0 => rfl
  | 1 => exact Subsingleton.elim (α := Fin 1) _ _

theorem landsS (idx : IVec S1048576x1 32) (p : Fin 1048576) (c : Fin 96) (x : S2x96.Idx) :
    dS.resultIdx? (ix2 p c) idx = some x ↔ (idx (ix2 p (0 : Fin 1))).toInt = ((x 0).val : Int) ∧ c = x 1 := by
  rw [lands]
  have h0 : dS.start (ix2 p c) idx 0 = (idx (ix2 p (0 : Fin 1))).toInt := congrArg (fun q => (idx q).toInt) (siS (ix2 p c) _)
  have h1 : dS.start (ix2 p c) idx 1 = 0 := rfl
  have w0 : dS.window (ix2 p c) 0 = 0 := rfl
  have w1 : dS.window (ix2 p c) 1 = c.val := rfl
  constructor
  · intro h
    have e0 := h 0
    have e1 := h 1
    rw [h0, w0] at e0
    rw [h1, w1] at e1
    exact ⟨by omega, Fin.ext (by omega)⟩
  · rintro ⟨e0, e1⟩ a
    match a with
    | 0 => rw [h0, w0]; omega
    | 1 => rw [h1, w1, e1]; omega

theorem landsC (idx : IVec S1048576x1 32) (p : Fin 1048576) (x : S2.Idx) :
    dC.resultIdx? (ix1 p) idx = some x ↔ (idx (ix2 p (0 : Fin 1))).toInt = ((x 0).val : Int) := by
  rw [lands]
  have h0 : dC.start (ix1 p) idx 0 = (idx (ix2 p (0 : Fin 1))).toInt := congrArg (fun q => (idx q).toInt) (siC (ix1 p) _)
  have w0 : dC.window (ix1 p) 0 = 0 := rfl
  constructor
  · intro h
    have e0 := h 0
    rw [h0, w0] at e0
    omega
  · intro e0 a
    match a with
    | 0 => rw [h0, w0]; omega

variable (fv : FVec Ideal S4x96x512x512 .f32) (mv : FVec Ideal S4x512x512 .f32)

/-! ## The sums as sums over the pixels in order -/

/-- The updates that land in one row and column: one per position that names the row. -/
theorem sum_hits {n k : ℕ} (R : (⟨2, ![n, k]⟩ : Shape).Idx → Prop) [DecidablePred R] (P : Fin n → Prop) [DecidablePred P] (c : Fin k)
    (e : ∀ p c', R (ix2 p c') ↔ P p ∧ c' = c) (f : (⟨2, ![n, k]⟩ : Shape).Idx → Ideal .f32) :
    ∑ j ∈ Finset.univ.filter R, f j = ∑ p : Fin n, if P p then f (ix2 p c) else 0 := by
  rw [Finset.sum_filter, ValueIdx.sum_idx2]
  refine sum_congr rfl fun p _ => ?_
  by_cases h : P p
  · rw [if_pos h]
    refine (Finset.sum_eq_single c ?_ ?_).trans ?_
    · intro c' _ hc
      exact if_neg fun q => hc ((e p c').mp q).2
    · intro hx
      exact (hx (Finset.mem_univ _)).elim
    · exact if_pos ((e p c).mpr ⟨h, rfl⟩)
  · rw [if_neg h]
    exact Finset.sum_eq_zero fun c' _ => if_neg fun q => h ((e p c').mp q).1

theorem sum_hits1 {n : ℕ} (R : (⟨1, ![n]⟩ : Shape).Idx → Prop) [DecidablePred R] (P : Fin n → Prop) [DecidablePred P]
    (e : ∀ p, R (ix1 p) ↔ P p) (a : Ideal .f32) :
    ∑ j ∈ Finset.univ.filter R, a = ∑ p : Fin n, if P p then a else 0 := by
  rw [Finset.sum_filter, sum_idx1]
  refine sum_congr rfl fun p _ => ?_
  by_cases h : P p
  · rw [if_pos h]
    exact if_pos ((e p).mpr h)
  · rw [if_neg h]
    exact if_neg (fun q => h ((e p).mp q))

theorem sums2_at (q : Fin 2) (c : Fin 96) (k : ℤ) (hk : (q.val : ℤ) = k) :
    sums2 fv mv (ix2 q c) = ∑ p : Fin 1048576, if (seg mv (ix2 p (0 : Fin 1))).toInt = k then rows fv (ix2 p c) else 0 := by
  subst hk
  have e : sums2 fv mv (ix2 q c) = Ideal.ofBits .f32 0x00000000#32 + ∑ j ∈ Finset.univ.filter (fun j => dS.resultIdx? j (seg mv) = some (ix2 q c)), rows fv j := rfl
  rw [e, Ideal.ofBits_zero_f32, zero_add]
  exact sum_hits _ _ c (fun p c' => landsS (seg mv) p c' (ix2 q c)) _

theorem counts2_at (q : Fin 2) (k : ℤ) (hk : (q.val : ℤ) = k) :
    counts2 mv (ix1 q) = ∑ p : Fin 1048576, if (seg mv (ix2 p (0 : Fin 1))).toInt = k then 1 else 0 := by
  subst hk
  have e : counts2 mv (ix1 q) = Ideal.ofBits .f32 0x00000000#32
    + ∑ j ∈ Finset.univ.filter (fun j => dC.resultIdx? j (seg mv) = some (ix1 q)), Ideal.ofBits .f32 0x3F800000#32 := rfl
  rw [e, Ideal.ofBits_zero_f32, Ideal.ofBits_one_f32, zero_add]
  exact sum_hits1 _ _ (fun p => landsC (seg mv) p (ix1 q)) 1

theorem feat_ix (b : Fin 4) (c : Fin 96) (h w : Fin 512) (b' c' h' w' : ℕ) (eb : b.val = b') (ec : c.val = c') (eh : h.val = h') (ew : w.val = w') :
    fv (Idealize.ShloMosaic.ix4 b c h w) = feat fv b' c' h' w' := by
  subst eb ec eh ew
  refine congrArg fv (funext fun a => Fin.ext ?_)
  match a with
  | 0 => exact (Nat.mod_eq_of_lt b.isLt).symm
  | 1 => exact (Nat.mod_eq_of_lt c.isLt).symm
  | 2 => exact (Nat.mod_eq_of_lt h.isLt).symm
  | 3 => exact (Nat.mod_eq_of_lt w.isLt).symm

theorem fg_ix (b : Fin 4) (h w : Fin 512) (b' h' w' : ℕ) (eb : b.val = b') (eh : h.val = h') (ew : w.val = w') :
    Ideal.ofBits .f32 0x3F000000#32 < mv (Idealize.ShloMosaic.ix3 b h w) ↔ fg mv b' h' w' := by
  subst eb eh ew
  unfold fg
  refine iff_of_eq (congrArg (fun q => Ideal.ofBits .f32 0x3F000000#32 < mv q) (funext fun a => Fin.ext ?_))
  match a with
  | 0 => exact (Nat.mod_eq_of_lt b.isLt).symm
  | 1 => exact (Nat.mod_eq_of_lt h.isLt).symm
  | 2 => exact (Nat.mod_eq_of_lt w.isLt).symm

theorem rows_at (p : Fin 1048576) (c : Fin 96) :
    rows fv (ix2 p c) = feat fv (p.val / 262144) c.val (p.val % 262144 / 512) (p.val % 512) := by
  pointwise [rows]
  exact feat_ix fv _ _ _ _ _ _ _ _ rfl rfl (show p.val / 512 % 512 = p.val % 262144 / 512 by omega) rfl

theorem word_fg {P : Prop} {x y : Ideal .f32} (e : x < y ↔ P) (h : P) : (BitVec.setWidth 32 (BitVec.ofBool (decide (x < y)))).toInt = 1 := by
  rw [decide_eq_true (e.mpr h)]; rfl

theorem word_bg {P : Prop} {x y : Ideal .f32} (e : x < y ↔ P) (h : ¬ P) : (BitVec.setWidth 32 (BitVec.ofBool (decide (x < y)))).toInt = 0 := by
  rw [decide_eq_false (fun q => h (e.mp q))]; rfl

theorem seg_fg (p : Fin 1048576) (h : fg mv (p.val / 262144) (p.val % 262144 / 512) (p.val % 512)) : (seg mv (ix2 p (0 : Fin 1))).toInt = 1 := by
  pointwise [seg]
  exact word_fg (fg_ix mv _ _ _ _ _ _ rfl (show p.val / 512 % 512 = p.val % 262144 / 512 by omega) rfl) h

theorem seg_bg (p : Fin 1048576) (h : ¬ fg mv (p.val / 262144) (p.val % 262144 / 512) (p.val % 512)) : (seg mv (ix2 p (0 : Fin 1))).toInt = 0 := by
  pointwise [seg]
  exact word_bg (fg_ix mv _ _ _ _ _ _ rfl (show p.val / 512 % 512 = p.val % 262144 / 512 by omega) rfl) h

end Cert.Proof.Ref

end
-- ==== Proof.Classes.lean ====
/-
  The reference's sums and counts of each class over the extended reals, as sums over batches and planes.
-/
module

public import proofs.«01_k».proof.Proof.Segments

@[expose] public section

set_option maxRecDepth 16384

noncomputable section

namespace Cert.Proof.Ref

open Cert.ReferenceIdeal Cert.ReferenceIdeal.Gen Cert.Proof.Sums
open Idealize.ShloMosaic hiding ix1 ix2 ix3 ix4
open Idealize.ShloMosaic.TcCoe
open Idealize.ShloMosaic.ValueIdx
open Finset (range sum_congr sum_comm sum_range_succ mem_range)
open Cert.Proof.Kernel (feat fg ind protos cmp_one)

variable (fv : FVec Ideal S4x96x512x512 .f32) (mv : FVec Ideal S4x512x512 .f32)

/-- The pixels in order are the batches' planes. -/
theorem pixels (g : ℕ → ℕ → ℕ → Ideal .f32) :
    ∑ p : Fin 1048576, g (p.val / 262144) (p.val % 262144 / 512) (p.val % 512) = ∑ b ∈ range 4, plane (g b) := by
  refine (Finset.sum_range (n := 1048576) fun p => g (p / 262144) (p % 262144 / 512) (p % 512)).symm.trans ?_
  refine (range_mul 4 262144 _).trans (sum_congr rfl fun b _ => ?_)
  refine (range_mul 512 512 _).trans (sum_congr rfl fun h hh => sum_congr rfl fun w hw => ?_)
  have hh := mem_range.mp hh
  have hw := mem_range.mp hw
  rw [show (b * 262144 + (h * 512 + w)) / 262144 = b by omega, show (b * 262144 + (h * 512 + w)) % 262144 / 512 = h by omega,
    show (b * 262144 + (h * 512 + w)) % 512 = w by omega]

/-! ## The sums by class -/

open Classical in
/-- The background's indicator. -/
def bgd (b h w : ℕ) : Ideal .f32 := if fg mv b h w then 0 else 1

theorem sums2_fg (c : Fin 96) : sums2 fv mv (ix2 (1 : Fin 2) c) = ∑ b ∈ range 4, plane fun h w => feat fv b c.val h w * ind mv b h w := by
  rw [sums2_at fv mv 1 c 1 rfl, ← pixels fun b h w => feat fv b c.val h w * ind mv b h w]
  refine sum_congr rfl fun p _ => ?_
  rw [rows_at]
  unfold ind
  by_cases h : fg mv (p.val / 262144) (p.val % 262144 / 512) (p.val % 512)
  · rw [if_pos h, mul_one, if_pos (seg_fg mv p h)]
  · rw [if_neg h, mul_zero, if_neg (by rw [seg_bg mv p h]; decide)]

theorem sums2_bg (c : Fin 96) : sums2 fv mv (ix2 (0 : Fin 2) c) = ∑ b ∈ range 4, plane fun h w => feat fv b c.val h w * bgd mv b h w := by
  rw [sums2_at fv mv 0 c 0 rfl, ← pixels fun b h w => feat fv b c.val h w * bgd mv b h w]
  refine sum_congr rfl fun p _ => ?_
  rw [rows_at]
  unfold bgd
  by_cases h : fg mv (p.val / 262144) (p.val % 262144 / 512) (p.val % 512)
  · rw [if_pos h, mul_zero, if_neg (by rw [seg_fg mv p h]; decide)]
  · rw [if_neg h, mul_one, if_pos (seg_bg mv p h)]

theorem counts2_fg : counts2 mv (ix1 (1 : Fin 2)) = ∑ b ∈ range 4, plane (ind mv b) := by
  rw [counts2_at mv 1 1 rfl, ← pixels (ind mv)]
  refine sum_congr rfl fun p _ => ?_
  unfold ind
  by_cases h : fg mv (p.val / 262144) (p.val % 262144 / 512) (p.val % 512)
  · rw [if_pos h, if_pos (seg_fg mv p h)]
  · rw [if_neg h, if_neg (by rw [seg_bg mv p h]; decide)]

theorem counts2_bg : counts2 mv (ix1 (0 : Fin 2)) = ∑ b ∈ range 4, plane (bgd mv b) := by
  rw [counts2_at mv 0 0 rfl, ← pixels (bgd mv)]
  refine sum_congr rfl fun p _ => ?_
  unfold bgd
  by_cases h : fg mv (p.val / 262144) (p.val % 262144 / 512) (p.val % 512)
  · rw [if_pos h, if_neg (by rw [seg_fg mv p h]; decide)]
  · rw [if_neg h, if_pos (seg_bg mv p h)]

/-! ## Read from the two-row arrays -/

theorem row_ix (v : FVec Ideal S2x96 .f32) (q : Fin 2) (c : Fin 96) (j : S2x96.Idx) (e0 : (j 0).val = q.val) (e1 : (j 1).val = c.val) :
    v j = v (ix2 q c) := by
  refine congrArg v (funext fun a => Fin.ext ?_)
  match a with
  | 0 => exact e0
  | 1 => exact e1

theorem sumFg_at (y : S96.Idx) : sumFg fv mv y = sums2 fv mv (ix2 (1 : Fin 2) (y 0)) := by
  pointwise [sumFg]
  exact row_ix _ _ _ _ rfl rfl

theorem sumBg_at (y : S96.Idx) : sumBg fv mv y = sums2 fv mv (ix2 (0 : Fin 2) (y 0)) := by
  pointwise [sumBg]
  exact row_ix _ _ _ _ rfl rfl

theorem cnt_ix (v : FVec Ideal S2 .f32) (q : Fin 2) (j : S2.Idx) (e0 : (j 0).val = q.val) : v j = v (ix1 q) := by
  refine congrArg v (funext fun a => Fin.ext ?_)
  match a with
  | 0 => exact e0

theorem cntFg_at (y : S_.Idx) : cntFg mv y = counts2 mv (ix1 (1 : Fin 2)) := by
  pointwise [cntFg]
  exact cnt_ix _ _ _ rfl

theorem cntBg_at (y : S_.Idx) : cntBg mv y = counts2 mv (ix1 (0 : Fin 2)) := by
  pointwise [cntBg]
  exact cnt_ix _ _ _ rfl

end Cert.Proof.Ref

end
-- ==== Proof.Value.lean ====
/-
  The value: with finite features the program's result is the reference's. The reference sums each class; the program
  sums the foreground and everything, and takes the background as the difference.
-/
module

public import Idealize.ShloMosaic.Lib.ReduceAll
public import proofs.«01_k».proof.Proof.Classes
public import proofs.«01_k».proof.Proof.Frames

@[expose] public section

set_option maxRecDepth 16384

noncomputable section

namespace Cert.Proof.Value

open Cert.KernelIdeal Cert.Proof.Sums
open Idealize.ShloMosaic hiding ix1 ix2 ix3 ix4
open Idealize.ShloMosaic.ValueIdx
open Idealize.SL.Sem
open Finset (range sum_congr)
open Cert.Proof.Kernel (feat fg ind protos fgSum fgCount allSum outV result outR)
open Cert.Proof.Ref (bgd sumFg sumBg cntFg cntBg)

/-! ## Finite numbers -/

def Real' (x : EReal) : Prop := ∃ r : ℝ, x = (r : EReal)

theorem real_zero : Real' 0 := ⟨0, rfl⟩

theorem real_add {x y : EReal} (hx : Real' x) (hy : Real' y) : Real' (x + y) := by
  obtain ⟨a, rfl⟩ := hx
  obtain ⟨b, rfl⟩ := hy
  exact ⟨a + b, (EReal.coe_add a b).symm⟩

theorem real_sum {ι : Type*} (s : Finset ι) (f : ι → EReal) (h : ∀ i ∈ s, Real' (f i)) : Real' (∑ i ∈ s, f i) :=
  Finset.sum_induction f Real' (fun _ _ => real_add) real_zero h

theorem sub_part {t a b : EReal} (e : t = a + b) (h : Real' a) : t - a = b := by
  obtain ⟨r, rfl⟩ := h
  rw [e, EReal.add_sub_cancel_left]

/-- A number whose magnitude is below infinity is real. -/
theorem real_of_abs {x : EReal} (h : max x (-x) < ⊤) : Real' x := by
  induction x with
  | bot => simp at h
  | top => simp at h
  | coe r => exact ⟨r, rfl⟩

theorem ofBits_inf : Ideal.ofBits .f32 0x7F800000#32 = ⊤ := by
  simp [Ideal.ofBits, Ideal.ieee]

theorem ofBits_pixels : Ideal.ofBits .f32 0x49800000#32 = ((1048576 : ℝ) : EReal) := by
  simp [Ideal.ofBits, Ideal.ieee, -EReal.coe_mul]; norm_num

/-! ## Each class and the whole -/

variable (fv : FVec Ideal S4x96x512x512 .f32) (mv : FVec Ideal S4x512x512 .f32)

theorem parts (b c h w : ℕ) : feat fv b c h w = feat fv b c h w * ind mv b h w + feat fv b c h w * bgd mv b h w := by
  unfold ind bgd
  by_cases q : fg mv b h w
  · rw [if_pos q, if_pos q, mul_one, mul_zero, add_zero]
  · rw [if_neg q, if_neg q, mul_one, mul_zero, zero_add]

theorem one_parts (b h w : ℕ) : (1 : Ideal .f32) = ind mv b h w + bgd mv b h w := by
  unfold ind bgd
  by_cases q : fg mv b h w
  · rw [if_pos q, if_pos q, add_zero]
  · rw [if_neg q, if_neg q, zero_add]

theorem planes_add (G H K : ℕ → ℕ → ℕ → Ideal .f32) (e : ∀ b h w, G b h w = H b h w + K b h w) :
    ∑ b ∈ range 4, plane (G b) = ∑ b ∈ range 4, plane (H b) + ∑ b ∈ range 4, plane (K b) := by
  rw [← Finset.sum_add_distrib]
  refine sum_congr rfl fun b _ => ?_
  unfold plane
  rw [← Finset.sum_add_distrib]
  refine sum_congr rfl fun h _ => ?_
  rw [← Finset.sum_add_distrib]
  exact sum_congr rfl fun w _ => e b h w

theorem planes_real (G : ℕ → ℕ → ℕ → Ideal .f32) (e : ∀ b h w, Real' (G b h w)) : Real' (∑ b ∈ range 4, plane (G b)) :=
  real_sum _ _ fun b _ => real_sum _ _ fun h _ => real_sum _ _ fun w _ => e b h w

theorem planes_one : ∑ b ∈ range 4, plane (fun _ _ => (1 : Ideal .f32)) = ((1048576 : ℝ) : EReal) := by
  unfold plane
  simp only [Finset.sum_const, Finset.card_range]
  show 4 • 512 • 512 • ((1 : ℝ) : EReal) = _
  rw [← EReal.coe_nsmul, ← EReal.coe_nsmul, ← EReal.coe_nsmul]
  norm_num

theorem ind_real (b h w : ℕ) : Real' (ind mv b h w) := by
  unfold ind
  by_cases q : fg mv b h w
  · rw [if_pos q]; exact ⟨1, rfl⟩
  · rw [if_neg q]; exact ⟨0, rfl⟩

theorem feat_ind_real (hf : ∀ i, Real' (fv i)) (b c h w : ℕ) : Real' (feat fv b c h w * ind mv b h w) := by
  unfold ind
  by_cases q : fg mv b h w
  · rw [if_pos q, mul_one]; exact hf _
  · rw [if_neg q, mul_zero]; exact ⟨0, rfl⟩

/-! ## The four numbers of the result -/

theorem fgSum_eq : fgSum (F := Ideal) (outV (F := Ideal) fv mv) = sumFg fv mv :=
  funext fun y => (Kernel.fgSum_sum fv mv y).trans ((Ref.sumFg_at fv mv y).trans (Ref.sums2_fg fv mv (y 0))).symm

theorem fgCount_eq : fgCount (F := Ideal) (outV (F := Ideal) fv mv) = cntFg mv :=
  funext fun y => (Kernel.fgCount_sum fv mv y).trans ((Ref.cntFg_at mv y).trans (Ref.counts2_fg mv)).symm

theorem bgSum_eq (hf : ∀ i, Real' (fv i)) :
    subf (allSum (F := Ideal) (outV (F := Ideal) fv mv)) (fgSum (F := Ideal) (outV (F := Ideal) fv mv)) = sumBg fv mv := by
  funext y
  refine Eq.trans ?_ ((Ref.sumBg_at fv mv y).trans (Ref.sums2_bg fv mv (y 0))).symm
  show allSum (F := Ideal) (outV (F := Ideal) fv mv) y - fgSum (F := Ideal) (outV (F := Ideal) fv mv) y = _
  rw [Kernel.allSum_sum, Kernel.fgSum_sum]
  exact sub_part (planes_add _ _ _ fun b h w => parts fv mv b (y 0).val h w) (planes_real _ fun b h w => feat_ind_real fv mv hf b (y 0).val h w)

theorem bgCount_eq : subf (constant S_ .f32 0x49800000#32) (fgCount (F := Ideal) (outV (F := Ideal) fv mv)) = cntBg mv := by
  funext y
  refine Eq.trans ?_ ((Ref.cntBg_at mv y).trans (Ref.counts2_bg mv)).symm
  show Ideal.ofBits .f32 0x49800000#32 - fgCount (F := Ideal) (outV (F := Ideal) fv mv) y = _
  rw [Kernel.fgCount_sum, ofBits_pixels, ← planes_one]
  exact sub_part (planes_add (fun _ _ _ => 1) _ _ fun b h w => one_parts mv b h w) (planes_real _ fun b h w => ind_real mv b h w)

theorem result_protos (hf : ∀ i, Real' (fv i)) (pf pb : FVec Ideal S96 .f32) (uf ub : IVec S_ 32) :
    result (F := Ideal) (outV (F := Ideal) fv mv) pf pb uf ub = protos (sumFg fv mv) (cntFg mv) (sumBg fv mv) (cntBg mv) pf pb uf ub := by
  unfold result
  rw [bgSum_eq fv mv hf, bgCount_eq, fgSum_eq, fgCount_eq]

/-! ## The precondition read -/

theorem finite (a1 : FVec Ideal S4x512x512 .f32) (a2 a3 : FVec Ideal S96 .f32) (a4 a5 : IVec S_ 32)
    (e : Cert.Pre_finite_features.fn (F := Ideal) fv a1 a2 a3 a4 a5 = fun _ => 1#1) (i) : Real' (fv i) := by
  have h : Ideal.cmp .olt (max (fv i) (-(fv i))) (Ideal.ofBits .f32 0x7F800000#32) = 1#1 :=
    haveI : Subsingleton Cert.Pre_finite_features.S_.Idx := ⟨fun a b => funext fun k => k.elim0⟩
    Host.reduce_andi_all _ _ _ _ (fun k => k.elim0) (congrFun e (fun k => k.elim0)) i
  rw [ofBits_inf] at h
  refine real_of_abs ?_
  by_contra q
  unfold Ideal.cmp at h
  simp [q] at h

end Cert.Proof.Value

namespace Cert.Proof

open Idealize.ShloMosaic Idealize.SL.Sem

theorem algebraic : Cert.algebraic_KernelIdeal_ReferenceIdeal_pre_finite_features := by
  intro m g m' g' hpre hargs
  refine ⟨fun c => Kernel.outR (F := Ideal) m c,
    (θ_run (Cert.KernelIdeal.defs (F := Ideal)) _ _).mono (fun _ h => h.1) (run_ideal m g),
    (θ_run (Cert.ReferenceIdeal.defs (F := Ideal)) _ _).mono (fun r h c => ⟨(h c).1.trans ?_, (h c).2⟩) (Cert.ReferenceIdeal.Value.run (F := Ideal) m' g')⟩
  obtain ⟨e0, e1, e2, e3, e4, e5⟩ := hargs c
  refine (Ref.result_eq m' c).trans ?_
  rw [e0, e1, e2, e3, e4, e5]
  exact (Value.result_protos _ _ (Value.finite _ _ _ _ _ _ (hpre c)) _ _ _ _).symm

end Cert.Proof

end
-- ==== Proof.lean ====
module

public import proofs.«01_k».proof.Defs
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts, inferInstance,
  frame_kernel, frame_ideal, frame_ideal_pre, frame_ref, frame_ref_pre, preserves, algebraic⟩

end Cert.Proof

end
